-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4x1024x256 : Shape := ⟨3, ![4, 1024, 256]⟩
abbrev S512x256 : Shape := ⟨2, ![512, 256]⟩
abbrev S2048x1536 : Shape := ⟨2, ![2048, 1536]⟩
abbrev S4x512x768 : Shape := ⟨3, ![4, 512, 768]⟩
abbrev S4x2 : Shape := ⟨2, ![4, 2]⟩
abbrev S2 : Shape := ⟨1, ![2]⟩
abbrev S4 : Shape := ⟨1, ![4]⟩
abbrev S_ : Shape := ⟨0, ![]⟩
abbrev S512x512 : Shape := ⟨2, ![512, 512]⟩
abbrev S1x512x256 : Shape := ⟨3, ![1, 512, 256]⟩
abbrev S1x1 : Shape := ⟨2, ![1, 1]⟩
abbrev S1x1024x128 : Shape := ⟨3, ![1, 1024, 128]⟩
abbrev S1024x128 : Shape := ⟨2, ![1024, 128]⟩
abbrev S512x1536 : Shape := ⟨2, ![512, 1536]⟩
abbrev S512x768 : Shape := ⟨2, ![512, 768]⟩
abbrev S1x512x128 : Shape := ⟨3, ![1, 512, 128]⟩
abbrev S512x128 : Shape := ⟨2, ![512, 128]⟩
abbrev S1x512x768 : Shape := ⟨3, ![1, 512, 768]⟩

abbrev nBuf : Space → Nat
  | .hbm => 5
  | .vmem => 14
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S512x2048, .fp8e5m2⟩
  | .local _ .vmem, ⟨2, _⟩ => ⟨S512x2048, .f32⟩
  | .local _ .vmem, ⟨3, _⟩ => ⟨S4096x512, .fp8e4m3⟩
  | .local _ .vmem, ⟨4, _⟩ => ⟨S512x2048, .fp8e5m2⟩
  | .local _ .vmem, ⟨5, _⟩ => ⟨S4x1024x256, .bf16⟩
  | .local _ .vmem, ⟨6, _⟩ => ⟨S4x1024x256, .bf16⟩
  | .local _ .vmem, ⟨7, _⟩ => ⟨S512x256, .bf16⟩
  | .local _ .vmem, ⟨8, _⟩ => ⟨S512x256, .bf16⟩
  | .local _ .vmem, ⟨9, _⟩ => ⟨S2048x1536, .fp8e4m3⟩
  | .local _ .vmem, ⟨10, _⟩ => ⟨S2048x1536, .bf16⟩
  | .local _ .vmem, ⟨11, _⟩ => ⟨S2048x1536, .fp8e4m3⟩
  | .local _ .vmem, ⟨12, _⟩ => ⟨S4x512x768, .bf16⟩
  | .local _ .vmem, ⟨13, _⟩ => ⟨S4x512x768, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_37 : BitVec 32 := 1#32
  let v65 : BitVec 32 := Scalar.muli v49 c1_i32_37
  let v66 : BitVec 32 := Scalar.addi c0_i32_38 v65
  v66.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_40 : BitVec 32 := 1#32
  let v67 : BitVec 32 := Scalar.muli v36 c1_i32_40
  let v68 : BitVec 32 := Scalar.addi c0_i32_41 v67
  v68.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_43 : BitVec 32 := 1#32
  let v69 : BitVec 32 := Scalar.muli v60 c1_i32_43
  let v70 : BitVec 32 := Scalar.addi c0_i32_44 v69
  v70.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_52 : BitVec 32 := 4#32
  let v81 : BitVec 32 := Scalar.addi v12 c4_i32_52
  let c1_i32_53 : BitVec 32 := 1#32
  let v82 : BitVec 32 := Scalar.subi v81 c1_i32_53
  let c4_i32_54 : BitVec 32 := 4#32
  let c0_i32_55 : BitVec 32 := 0#32
  let v83 : BitVec 1 := Scalar.cmpi .eq c4_i32_54 c0_i32_55
  let c1_i32_56 : BitVec 32 := 1#32
  let v84 : BitVec 32 := Scalar.select v83 c1_i32_56 c4_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c512_i32_60 : BitVec 32 := 512#32
  let v93 : BitVec 32 := Scalar.muli v92 c512_i32_60
  let v94 : Index := Scalar.indexCast v93
  let c0_61 : Index := 0#32
  ![v94.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_52 : BitVec 32 := 4#32
  let v81 : BitVec 32 := Scalar.addi v12 c4_i32_52
  let c1_i32_53 : BitVec 32 := 1#32
  let v82 : BitVec 32 := Scalar.subi v81 c1_i32_53
  let c4_i32_54 : BitVec 32 := 4#32
  let c0_i32_55 : BitVec 32 := 0#32
  let v83 : BitVec 1 := Scalar.cmpi .eq c4_i32_54 c0_i32_55
  let c1_i32_56 : BitVec 32 := 1#32
  let v84 : BitVec 32 := Scalar.select v83 c1_i32_56 c4_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c4_i32_64 : BitVec 32 := 4#32
  let v98 : BitVec 32 := Scalar.addi v92 c4_i32_64
  let c512_i32_65 : BitVec 32 := 512#32
  let v99 : BitVec 32 := Scalar.muli v98 c512_i32_65
  let v100 : Index := Scalar.indexCast v99
  let c0_66 : Index := 0#32
  ![v100.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_75 : BitVec 32 := 1#32
  let v112 : BitVec 32 := Scalar.addi v12 c1_i32_75
  let c4_i32_76 : BitVec 32 := 4#32
  let c0_i32_77 : BitVec 32 := 0#32
  let v113 : BitVec 1 := Scalar.cmpi .eq c4_i32_76 c0_i32_77
  let c1_i32_78 : BitVec 32 := 1#32
  let v114 : BitVec 32 := Scalar.select v113 c1_i32_78 c4_i32_76
  let v115 : BitVec 32 := Scalar.remsi v112 v114
  let c0_i32_80 : BitVec 32 := 0#32
  let v117 : BitVec 1 := Scalar.cmpi .slt v115 c0_i32_80
  let c0_i32_81 : BitVec 32 := 0#32
  let v118 : BitVec 1 := Scalar.cmpi .slt v114 c0_i32_81
  let v119 : BitVec 1 := Scalar.xori v117 v118
  let c0_i32_79 : BitVec 32 := 0#32
  let v116 : BitVec 1 := Scalar.cmpi .ne v115 c0_i32_79
  let v120 : BitVec 1 := Scalar.andi v119 v116
  let v121 : BitVec 32 := Scalar.addi v115 v114
  let v122 : BitVec 32 := Scalar.select v120 v121 v115
  let c512_i32_82 : BitVec 32 := 512#32
  let v123 : BitVec 32 := Scalar.muli v122 c512_i32_82
  let v124 : Index := Scalar.indexCast v123
  let c0_83 : Index := 0#32
  ![v124.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_75 : BitVec 32 := 1#32
  let v112 : BitVec 32 := Scalar.addi v12 c1_i32_75
  let c4_i32_76 : BitVec 32 := 4#32
  let c0_i32_77 : BitVec 32 := 0#32
  let v113 : BitVec 1 := Scalar.cmpi .eq c4_i32_76 c0_i32_77
  let c1_i32_78 : BitVec 32 := 1#32
  let v114 : BitVec 32 := Scalar.select v113 c1_i32_78 c4_i32_76
  let v115 : BitVec 32 := Scalar.remsi v112 v114
  let c0_i32_80 : BitVec 32 := 0#32
  let v117 : BitVec 1 := Scalar.cmpi .slt v115 c0_i32_80
  let c0_i32_81 : BitVec 32 := 0#32
  let v118 : BitVec 1 := Scalar.cmpi .slt v114 c0_i32_81
  let v119 : BitVec 1 := Scalar.xori v117 v118
  let c0_i32_79 : BitVec 32 := 0#32
  let v116 : BitVec 1 := Scalar.cmpi .ne v115 c0_i32_79
  let v120 : BitVec 1 := Scalar.andi v119 v116
  let v121 : BitVec 32 := Scalar.addi v115 v114
  let v122 : BitVec 32 := Scalar.select v120 v121 v115
  let c4_i32_86 : BitVec 32 := 4#32
  let v128 : BitVec 32 := Scalar.addi v122 c4_i32_86
  let c512_i32_87 : BitVec 32 := 512#32
  let v129 : BitVec 32 := Scalar.muli v128 c512_i32_87
  let v130 : Index := Scalar.indexCast v129
  let c0_88 : Index := 0#32
  ![v130.toNat, 0]
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_104 : BitVec 32 := 1#32
  let v142 : BitVec 32 := Scalar.muli v36 c1_i32_104
  let v143 : BitVec 32 := Scalar.addi c0_i32_105 v142
  v143.toNat
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_116 : BitVec 32 := 1#32
  let v152 : BitVec 32 := Scalar.muli v49 c1_i32_116
  let v153 : BitVec 32 := Scalar.addi c0_i32_117 v152
  v153.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_128 : BitVec 32 := 1#32
  let v162 : BitVec 32 := Scalar.muli v36 c1_i32_128
  let v163 : BitVec 32 := Scalar.addi c0_i32_129 v162
  v163.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_139 : BitVec 32 := 1#32
  let v172 : BitVec 32 := Scalar.muli v49 c1_i32_139
  let v173 : BitVec 32 := Scalar.addi c0_i32_140 v172
  v173.toNat
def k0_off5 (d0 : Dev nD) (c0_i32_151 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_4 : BitVec 32 := 4#32
  let v14 : BitVec 32 := Scalar.addi v13 c4_i32_4
  let c8_i32_5 : BitVec 32 := 8#32
  let c0_i32_6 : BitVec 32 := 0#32
  let v15 : BitVec 1 := Scalar.cmpi .eq c8_i32_5 c0_i32_6
  let c1_i32_7 : BitVec 32 := 1#32
  let v16 : BitVec 32 := Scalar.select v15 c1_i32_7 c8_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c4_i32_149 : BitVec 32 := 4#32
  let v187 : BitVec 32 := Scalar.addi v12 c4_i32_149
  let c1_i32_150 : BitVec 32 := 1#32
  let v188 : BitVec 32 := Scalar.subi v187 c1_i32_150
  let v189 : BitVec 32 := Scalar.subi v188 c0_i32_151
  let c4_i32_152 : BitVec 32 := 4#32
  let c0_i32_153 : BitVec 32 := 0#32
  let v190 : BitVec 1 := Scalar.cmpi .eq c4_i32_152 c0_i32_153
  let c1_i32_154 : BitVec 32 := 1#32
  let v191 : BitVec 32 := Scalar.select v190 c1_i32_154 c4_i32_152
  let v192 : BitVec 32 := Scalar.remsi v189 v191
  let c0_i32_156 : BitVec 32 := 0#32
  let v194 : BitVec 1 := Scalar.cmpi .slt v192 c0_i32_156
  let c0_i32_157 : BitVec 32 := 0#32
  let v195 : BitVec 1 := Scalar.cmpi .slt v191 c0_i32_157
  let v196 : BitVec 1 := Scalar.xori v194 v195
  let c0_i32_155 : BitVec 32 := 0#32
  let v193 : BitVec 1 := Scalar.cmpi .ne v192 c0_i32_155
  let v197 : BitVec 1 := Scalar.andi v196 v193
  let v198 : BitVec 32 := Scalar.addi v192 v191
  let v199 : BitVec 32 := Scalar.select v197 v198 v192
  let v201 : BitVec 32 := Scalar.addi v24 v199
  let c512_i32_159 : BitVec 32 := 512#32
  let v202 : BitVec 32 := Scalar.muli v201 c512_i32_159
  let v203 : Index := Scalar.indexCast v202
  let c0_160 : Index := 0#32
  ![v203.toNat, 0]
def k0_off6 (d0 : Dev nD) (c0_i32_151 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_149 : BitVec 32 := 4#32
  let v187 : BitVec 32 := Scalar.addi v12 c4_i32_149
  let c1_i32_150 : BitVec 32 := 1#32
  let v188 : BitVec 32 := Scalar.subi v187 c1_i32_150
  let v189 : BitVec 32 := Scalar.subi v188 c0_i32_151
  let c4_i32_152 : BitVec 32 := 4#32
  let c0_i32_153 : BitVec 32 := 0#32
  let v190 : BitVec 1 := Scalar.cmpi .eq c4_i32_152 c0_i32_153
  let c1_i32_154 : BitVec 32 := 1#32
  let v191 : BitVec 32 := Scalar.select v190 c1_i32_154 c4_i32_152
  let v192 : BitVec 32 := Scalar.remsi v189 v191
  let c0_i32_156 : BitVec 32 := 0#32
  let v194 : BitVec 1 := Scalar.cmpi .slt v192 c0_i32_156
  let c0_i32_157 : BitVec 32 := 0#32
  let v195 : BitVec 1 := Scalar.cmpi .slt v191 c0_i32_157
  let v196 : BitVec 1 := Scalar.xori v194 v195
  let c0_i32_155 : BitVec 32 := 0#32
  let v193 : BitVec 1 := Scalar.cmpi .ne v192 c0_i32_155
  let v197 : BitVec 1 := Scalar.andi v196 v193
  let v198 : BitVec 32 := Scalar.addi v192 v191
  let v199 : BitVec 32 := Scalar.select v197 v198 v192
  let c512_i32_158 : BitVec 32 := 512#32
  let v200 : BitVec 32 := Scalar.muli v199 c512_i32_158
  let v208 : Index := Scalar.indexCast v200
  let c0_164 : Index := 0#32
  ![v208.toNat, 0]
def k0_off7 (d0 : Dev nD) (c0_i32_151 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_149 : BitVec 32 := 4#32
  let v187 : BitVec 32 := Scalar.addi v12 c4_i32_149
  let c1_i32_150 : BitVec 32 := 1#32
  let v188 : BitVec 32 := Scalar.subi v187 c1_i32_150
  let v189 : BitVec 32 := Scalar.subi v188 c0_i32_151
  let c4_i32_152 : BitVec 32 := 4#32
  let c0_i32_153 : BitVec 32 := 0#32
  let v190 : BitVec 1 := Scalar.cmpi .eq c4_i32_152 c0_i32_153
  let c1_i32_154 : BitVec 32 := 1#32
  let v191 : BitVec 32 := Scalar.select v190 c1_i32_154 c4_i32_152
  let v192 : BitVec 32 := Scalar.remsi v189 v191
  let c0_i32_156 : BitVec 32 := 0#32
  let v194 : BitVec 1 := Scalar.cmpi .slt v192 c0_i32_156
  let c0_i32_157 : BitVec 32 := 0#32
  let v195 : BitVec 1 := Scalar.cmpi .slt v191 c0_i32_157
  let v196 : BitVec 1 := Scalar.xori v194 v195
  let c0_i32_155 : BitVec 32 := 0#32
  let v193 : BitVec 1 := Scalar.cmpi .ne v192 c0_i32_155
  let v197 : BitVec 1 := Scalar.andi v196 v193
  let v198 : BitVec 32 := Scalar.addi v192 v191
  let v199 : BitVec 32 := Scalar.select v197 v198 v192
  let c512_i32_158 : BitVec 32 := 512#32
  let v200 : BitVec 32 := Scalar.muli v199 c512_i32_158
  let c0_i32_171 : BitVec 32 := 0#32
  ![v200.toNat, 0]
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_169 : BitVec 32 := 1#32
  let v212 : BitVec 32 := Scalar.muli v60 c1_i32_169
  let v213 : BitVec 32 := Scalar.addi c0_i32_170 v212
  v213.toNat
def k0_off8 (d0 : Dev nD) (c0_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_4 : BitVec 32 := 4#32
  let v14 : BitVec 32 := Scalar.addi v13 c4_i32_4
  let c8_i32_5 : BitVec 32 := 8#32
  let c0_i32_6 : BitVec 32 := 0#32
  let v15 : BitVec 1 := Scalar.cmpi .eq c8_i32_5 c0_i32_6
  let c1_i32_7 : BitVec 32 := 1#32
  let v16 : BitVec 32 := Scalar.select v15 c1_i32_7 c8_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_173 : BitVec 32 := 1#32
  let v220 : BitVec 32 := Scalar.addi v12 c1_i32_173
  let v221 : BitVec 32 := Scalar.addi v220 c0_i32_174
  let c4_i32_175 : BitVec 32 := 4#32
  let c0_i32_176 : BitVec 32 := 0#32
  let v222 : BitVec 1 := Scalar.cmpi .eq c4_i32_175 c0_i32_176
  let c1_i32_177 : BitVec 32 := 1#32
  let v223 : BitVec 32 := Scalar.select v222 c1_i32_177 c4_i32_175
  let v224 : BitVec 32 := Scalar.remsi v221 v223
  let c0_i32_179 : BitVec 32 := 0#32
  let v226 : BitVec 1 := Scalar.cmpi .slt v224 c0_i32_179
  let c0_i32_180 : BitVec 32 := 0#32
  let v227 : BitVec 1 := Scalar.cmpi .slt v223 c0_i32_180
  let v228 : BitVec 1 := Scalar.xori v226 v227
  let c0_i32_178 : BitVec 32 := 0#32
  let v225 : BitVec 1 := Scalar.cmpi .ne v224 c0_i32_178
  let v229 : BitVec 1 := Scalar.andi v228 v225
  let v230 : BitVec 32 := Scalar.addi v224 v223
  let v231 : BitVec 32 := Scalar.select v229 v230 v224
  let v233 : BitVec 32 := Scalar.addi v24 v231
  let c512_i32_182 : BitVec 32 := 512#32
  let v234 : BitVec 32 := Scalar.muli v233 c512_i32_182
  let v235 : Index := Scalar.indexCast v234
  let c0_183 : Index := 0#32
  ![v235.toNat, 0]
def k0_off9 (d0 : Dev nD) (c0_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_173 : BitVec 32 := 1#32
  let v220 : BitVec 32 := Scalar.addi v12 c1_i32_173
  let v221 : BitVec 32 := Scalar.addi v220 c0_i32_174
  let c4_i32_175 : BitVec 32 := 4#32
  let c0_i32_176 : BitVec 32 := 0#32
  let v222 : BitVec 1 := Scalar.cmpi .eq c4_i32_175 c0_i32_176
  let c1_i32_177 : BitVec 32 := 1#32
  let v223 : BitVec 32 := Scalar.select v222 c1_i32_177 c4_i32_175
  let v224 : BitVec 32 := Scalar.remsi v221 v223
  let c0_i32_179 : BitVec 32 := 0#32
  let v226 : BitVec 1 := Scalar.cmpi .slt v224 c0_i32_179
  let c0_i32_180 : BitVec 32 := 0#32
  let v227 : BitVec 1 := Scalar.cmpi .slt v223 c0_i32_180
  let v228 : BitVec 1 := Scalar.xori v226 v227
  let c0_i32_178 : BitVec 32 := 0#32
  let v225 : BitVec 1 := Scalar.cmpi .ne v224 c0_i32_178
  let v229 : BitVec 1 := Scalar.andi v228 v225
  let v230 : BitVec 32 := Scalar.addi v224 v223
  let v231 : BitVec 32 := Scalar.select v229 v230 v224
  let c512_i32_181 : BitVec 32 := 512#32
  let v232 : BitVec 32 := Scalar.muli v231 c512_i32_181
  let v240 : Index := Scalar.indexCast v232
  let c768 : Index := 768#32
  ![v240.toNat, 768]
def k0_off10 (d0 : Dev nD) (c0_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_173 : BitVec 32 := 1#32
  let v220 : BitVec 32 := Scalar.addi v12 c1_i32_173
  let v221 : BitVec 32 := Scalar.addi v220 c0_i32_174
  let c4_i32_175 : BitVec 32 := 4#32
  let c0_i32_176 : BitVec 32 := 0#32
  let v222 : BitVec 1 := Scalar.cmpi .eq c4_i32_175 c0_i32_176
  let c1_i32_177 : BitVec 32 := 1#32
  let v223 : BitVec 32 := Scalar.select v222 c1_i32_177 c4_i32_175
  let v224 : BitVec 32 := Scalar.remsi v221 v223
  let c0_i32_179 : BitVec 32 := 0#32
  let v226 : BitVec 1 := Scalar.cmpi .slt v224 c0_i32_179
  let c0_i32_180 : BitVec 32 := 0#32
  let v227 : BitVec 1 := Scalar.cmpi .slt v223 c0_i32_180
  let v228 : BitVec 1 := Scalar.xori v226 v227
  let c0_i32_178 : BitVec 32 := 0#32
  let v225 : BitVec 1 := Scalar.cmpi .ne v224 c0_i32_178
  let v229 : BitVec 1 := Scalar.andi v228 v225
  let v230 : BitVec 32 := Scalar.addi v224 v223
  let v231 : BitVec 32 := Scalar.select v229 v230 v224
  let c512_i32_181 : BitVec 32 := 512#32
  let v232 : BitVec 32 := Scalar.muli v231 c512_i32_181
  let c768_i32 : BitVec 32 := 768#32
  ![v232.toNat, 768]
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_190 : BitVec 32 := 1#32
  let v244 : BitVec 32 := Scalar.muli v60 c1_i32_190
  let v245 : BitVec 32 := Scalar.addi c0_i32_191 v244
  v245.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_213 : BitVec 32 := 1#32
  let v277 : BitVec 32 := Scalar.muli v60 c1_i32_213
  let v278 : BitVec 32 := Scalar.addi c0_i32_214 v277
  v278.toNat
def k0_dev11 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_236 : BitVec 32 := 1#32
  let v309 : BitVec 32 := Scalar.muli v60 c1_i32_236
  let v310 : BitVec 32 := Scalar.addi c0_i32_237 v309
  v310.toNat
def k0_off11 (d0 : Dev nD) (c1_i32_242 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_240 : BitVec 32 := 4#32
  let v317 : BitVec 32 := Scalar.addi v12 c4_i32_240
  let c1_i32_241 : BitVec 32 := 1#32
  let v318 : BitVec 32 := Scalar.subi v317 c1_i32_241
  let v319 : BitVec 32 := Scalar.subi v318 c1_i32_242
  let c4_i32_243 : BitVec 32 := 4#32
  let c0_i32_244 : BitVec 32 := 0#32
  let v320 : BitVec 1 := Scalar.cmpi .eq c4_i32_243 c0_i32_244
  let c1_i32_245 : BitVec 32 := 1#32
  let v321 : BitVec 32 := Scalar.select v320 c1_i32_245 c4_i32_243
  let v322 : BitVec 32 := Scalar.remsi v319 v321
  let c0_i32_247 : BitVec 32 := 0#32
  let v324 : BitVec 1 := Scalar.cmpi .slt v322 c0_i32_247
  let c0_i32_248 : BitVec 32 := 0#32
  let v325 : BitVec 1 := Scalar.cmpi .slt v321 c0_i32_248
  let v326 : BitVec 1 := Scalar.xori v324 v325
  let c0_i32_246 : BitVec 32 := 0#32
  let v323 : BitVec 1 := Scalar.cmpi .ne v322 c0_i32_246
  let v327 : BitVec 1 := Scalar.andi v326 v323
  let v328 : BitVec 32 := Scalar.addi v322 v321
  let v329 : BitVec 32 := Scalar.select v327 v328 v322
  let c512_i32_249 : BitVec 32 := 512#32
  let v330 : BitVec 32 := Scalar.muli v329 c512_i32_249
  let v331 : Index := Scalar.indexCast v330
  let c0_250 : Index := 0#32
  ![v331.toNat, 0]
def k0_off12 (d0 : Dev nD) (c1_i32_242 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_240 : BitVec 32 := 4#32
  let v317 : BitVec 32 := Scalar.addi v12 c4_i32_240
  let c1_i32_241 : BitVec 32 := 1#32
  let v318 : BitVec 32 := Scalar.subi v317 c1_i32_241
  let v319 : BitVec 32 := Scalar.subi v318 c1_i32_242
  let c4_i32_243 : BitVec 32 := 4#32
  let c0_i32_244 : BitVec 32 := 0#32
  let v320 : BitVec 1 := Scalar.cmpi .eq c4_i32_243 c0_i32_244
  let c1_i32_245 : BitVec 32 := 1#32
  let v321 : BitVec 32 := Scalar.select v320 c1_i32_245 c4_i32_243
  let v322 : BitVec 32 := Scalar.remsi v319 v321
  let c0_i32_247 : BitVec 32 := 0#32
  let v324 : BitVec 1 := Scalar.cmpi .slt v322 c0_i32_247
  let c0_i32_248 : BitVec 32 := 0#32
  let v325 : BitVec 1 := Scalar.cmpi .slt v321 c0_i32_248
  let v326 : BitVec 1 := Scalar.xori v324 v325
  let c0_i32_246 : BitVec 32 := 0#32
  let v323 : BitVec 1 := Scalar.cmpi .ne v322 c0_i32_246
  let v327 : BitVec 1 := Scalar.andi v326 v323
  let v328 : BitVec 32 := Scalar.addi v322 v321
  let v329 : BitVec 32 := Scalar.select v327 v328 v322
  let c4_i32_254 : BitVec 32 := 4#32
  let v335 : BitVec 32 := Scalar.addi v329 c4_i32_254
  let c512_i32_255 : BitVec 32 := 512#32
  let v336 : BitVec 32 := Scalar.muli v335 c512_i32_255
  let v337 : Index := Scalar.indexCast v336
  let c0_256 : Index := 0#32
  ![v337.toNat, 0]
def k0_off13 (d0 : Dev nD) (c1_i32_261 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_260 : BitVec 32 := 1#32
  let v341 : BitVec 32 := Scalar.addi v12 c1_i32_260
  let v342 : BitVec 32 := Scalar.addi v341 c1_i32_261
  let c4_i32_262 : BitVec 32 := 4#32
  let c0_i32_263 : BitVec 32 := 0#32
  let v343 : BitVec 1 := Scalar.cmpi .eq c4_i32_262 c0_i32_263
  let c1_i32_264 : BitVec 32 := 1#32
  let v344 : BitVec 32 := Scalar.select v343 c1_i32_264 c4_i32_262
  let v345 : BitVec 32 := Scalar.remsi v342 v344
  let c0_i32_266 : BitVec 32 := 0#32
  let v347 : BitVec 1 := Scalar.cmpi .slt v345 c0_i32_266
  let c0_i32_267 : BitVec 32 := 0#32
  let v348 : BitVec 1 := Scalar.cmpi .slt v344 c0_i32_267
  let v349 : BitVec 1 := Scalar.xori v347 v348
  let c0_i32_265 : BitVec 32 := 0#32
  let v346 : BitVec 1 := Scalar.cmpi .ne v345 c0_i32_265
  let v350 : BitVec 1 := Scalar.andi v349 v346
  let v351 : BitVec 32 := Scalar.addi v345 v344
  let v352 : BitVec 32 := Scalar.select v350 v351 v345
  let c512_i32_268 : BitVec 32 := 512#32
  let v353 : BitVec 32 := Scalar.muli v352 c512_i32_268
  let v354 : Index := Scalar.indexCast v353
  let c0_269 : Index := 0#32
  ![v354.toNat, 0]
def k0_off14 (d0 : Dev nD) (c1_i32_261 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_260 : BitVec 32 := 1#32
  let v341 : BitVec 32 := Scalar.addi v12 c1_i32_260
  let v342 : BitVec 32 := Scalar.addi v341 c1_i32_261
  let c4_i32_262 : BitVec 32 := 4#32
  let c0_i32_263 : BitVec 32 := 0#32
  let v343 : BitVec 1 := Scalar.cmpi .eq c4_i32_262 c0_i32_263
  let c1_i32_264 : BitVec 32 := 1#32
  let v344 : BitVec 32 := Scalar.select v343 c1_i32_264 c4_i32_262
  let v345 : BitVec 32 := Scalar.remsi v342 v344
  let c0_i32_266 : BitVec 32 := 0#32
  let v347 : BitVec 1 := Scalar.cmpi .slt v345 c0_i32_266
  let c0_i32_267 : BitVec 32 := 0#32
  let v348 : BitVec 1 := Scalar.cmpi .slt v344 c0_i32_267
  let v349 : BitVec 1 := Scalar.xori v347 v348
  let c0_i32_265 : BitVec 32 := 0#32
  let v346 : BitVec 1 := Scalar.cmpi .ne v345 c0_i32_265
  let v350 : BitVec 1 := Scalar.andi v349 v346
  let v351 : BitVec 32 := Scalar.addi v345 v344
  let v352 : BitVec 32 := Scalar.select v350 v351 v345
  let c4_i32_273 : BitVec 32 := 4#32
  let v358 : BitVec 32 := Scalar.addi v352 c4_i32_273
  let c512_i32_274 : BitVec 32 := 512#32
  let v359 : BitVec 32 := Scalar.muli v358 c512_i32_274
  let v360 : Index := Scalar.indexCast v359
  let c0_275 : Index := 0#32
  ![v360.toNat, 0]
def k0_dev12 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_318 : BitVec 32 := 1#32
  let v396 : BitVec 32 := Scalar.muli v36 c1_i32_318
  let v397 : BitVec 32 := Scalar.addi c0_i32_319 v396
  v397.toNat
def k0_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_365 : BitVec 32 := 1#32
  let v438 : BitVec 32 := Scalar.muli v49 c1_i32_365
  let v439 : BitVec 32 := Scalar.addi c0_i32_366 v438
  v439.toNat
def k0_dev14 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_411 : BitVec 32 := 1#32
  let v480 : BitVec 32 := Scalar.muli v36 c1_i32_411
  let v481 : BitVec 32 := Scalar.addi c0_i32_412 v480
  v481.toNat
def k0_dev15 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_458 : BitVec 32 := 1#32
  let v522 : BitVec 32 := Scalar.muli v49 c1_i32_458
  let v523 : BitVec 32 := Scalar.addi c0_i32_459 v522
  v523.toNat
def k0_dev16 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_484 : BitVec 32 := 1#32
  let v557 : BitVec 32 := Scalar.muli v60 c1_i32_484
  let v558 : BitVec 32 := Scalar.addi c0_i32_485 v557
  v558.toNat
def k0_dev17 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_507 : BitVec 32 := 1#32
  let v589 : BitVec 32 := Scalar.muli v60 c1_i32_507
  let v590 : BitVec 32 := Scalar.addi c0_i32_508 v589
  v590.toNat
def k0_dev18 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_590 : BitVec 32 := 1#32
  let v676 : BitVec 32 := Scalar.muli v36 c1_i32_590
  let v677 : BitVec 32 := Scalar.addi c0_i32_591 v676
  v677.toNat
def k0_dev19 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_637 : BitVec 32 := 1#32
  let v718 : BitVec 32 := Scalar.muli v49 c1_i32_637
  let v719 : BitVec 32 := Scalar.addi c0_i32_638 v718
  v719.toNat
def k0_dev20 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_684 : BitVec 32 := 1#32
  let v760 : BitVec 32 := Scalar.muli v36 c1_i32_684
  let v761 : BitVec 32 := Scalar.addi c0_i32_685 v760
  v761.toNat
def k0_dev21 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_731 : BitVec 32 := 1#32
  let v802 : BitVec 32 := Scalar.muli v49 c1_i32_731
  let v803 : BitVec 32 := Scalar.addi c0_i32_732 v802
  v803.toNat
def k0_dev22 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_757 : BitVec 32 := 1#32
  let v837 : BitVec 32 := Scalar.muli v60 c1_i32_757
  let v838 : BitVec 32 := Scalar.addi c0_i32_758 v837
  v838.toNat
def k0_dev23 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_780 : BitVec 32 := 1#32
  let v869 : BitVec 32 := Scalar.muli v60 c1_i32_780
  let v870 : BitVec 32 := Scalar.addi c0_i32_781 v869
  v870.toNat
def k0_off15 (d0 : Dev nD) (c0_i32_784 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v877 : BitVec 32 := Scalar.addi v13 c0_i32_784
  let c512_i32_785 : BitVec 32 := 512#32
  let v878 : BitVec 32 := Scalar.muli v877 c512_i32_785
  let v879 : Index := Scalar.indexCast v878
  let c0_786 : Index := 0#32
  ![v879.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_829 : BitVec 32 := 4#32
  let v927 : BitVec 32 := Scalar.addi v12 c4_i32_829
  let c1_i32_830 : BitVec 32 := 1#32
  let v928 : BitVec 32 := Scalar.subi v927 c1_i32_830
  let c4_i32_831 : BitVec 32 := 4#32
  let c0_i32_832 : BitVec 32 := 0#32
  let v929 : BitVec 1 := Scalar.cmpi .eq c4_i32_831 c0_i32_832
  let c1_i32_833 : BitVec 32 := 1#32
  let v930 : BitVec 32 := Scalar.select v929 c1_i32_833 c4_i32_831
  let v931 : BitVec 32 := Scalar.remsi v928 v930
  let c0_i32_835 : BitVec 32 := 0#32
  let v933 : BitVec 1 := Scalar.cmpi .slt v931 c0_i32_835
  let c0_i32_836 : BitVec 32 := 0#32
  let v934 : BitVec 1 := Scalar.cmpi .slt v930 c0_i32_836
  let v935 : BitVec 1 := Scalar.xori v933 v934
  let c0_i32_834 : BitVec 32 := 0#32
  let v932 : BitVec 1 := Scalar.cmpi .ne v931 c0_i32_834
  let v936 : BitVec 1 := Scalar.andi v935 v932
  let v937 : BitVec 32 := Scalar.addi v931 v930
  let v938 : BitVec 32 := Scalar.select v936 v937 v931
  let c512_i32_837 : BitVec 32 := 512#32
  let v939 : BitVec 32 := Scalar.muli v938 c512_i32_837
  let v940 : Index := Scalar.indexCast v939
  let c0_838 : Index := 0#32
  ![v940.toNat, 0]
def k0_dev24 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_847 : BitVec 32 := 1#32
  let v951 : BitVec 32 := Scalar.muli v36 c1_i32_847
  let v952 : BitVec 32 := Scalar.addi c0_i32_848 v951
  v952.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_868 : BitVec 32 := 1#32
  let v971 : BitVec 32 := Scalar.addi v12 c1_i32_868
  let c4_i32_869 : BitVec 32 := 4#32
  let c0_i32_870 : BitVec 32 := 0#32
  let v972 : BitVec 1 := Scalar.cmpi .eq c4_i32_869 c0_i32_870
  let c1_i32_871 : BitVec 32 := 1#32
  let v973 : BitVec 32 := Scalar.select v972 c1_i32_871 c4_i32_869
  let v974 : BitVec 32 := Scalar.remsi v971 v973
  let c0_i32_873 : BitVec 32 := 0#32
  let v976 : BitVec 1 := Scalar.cmpi .slt v974 c0_i32_873
  let c0_i32_874 : BitVec 32 := 0#32
  let v977 : BitVec 1 := Scalar.cmpi .slt v973 c0_i32_874
  let v978 : BitVec 1 := Scalar.xori v976 v977
  let c0_i32_872 : BitVec 32 := 0#32
  let v975 : BitVec 1 := Scalar.cmpi .ne v974 c0_i32_872
  let v979 : BitVec 1 := Scalar.andi v978 v975
  let v980 : BitVec 32 := Scalar.addi v974 v973
  let v981 : BitVec 32 := Scalar.select v979 v980 v974
  let c512_i32_875 : BitVec 32 := 512#32
  let v982 : BitVec 32 := Scalar.muli v981 c512_i32_875
  let v983 : Index := Scalar.indexCast v982
  let c768_876 : Index := 768#32
  ![v983.toNat, 768]
def k0_dev25 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_885 : BitVec 32 := 1#32
  let v994 : BitVec 32 := Scalar.muli v49 c1_i32_885
  let v995 : BitVec 32 := Scalar.addi c0_i32_886 v994
  v995.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_891 : BitVec 32 := 512#32
  let v1004 : BitVec 32 := Scalar.muli v12 c512_i32_891
  let v1005 : Index := Scalar.indexCast v1004
  let c0_892 : Index := 0#32
  ![v1005.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_896 : BitVec 32 := 4#32
  let v1009 : BitVec 32 := Scalar.addi v12 c4_i32_896
  let c512_i32_897 : BitVec 32 := 512#32
  let v1010 : BitVec 32 := Scalar.muli v1009 c512_i32_897
  let v1011 : Index := Scalar.indexCast v1010
  let c0_898 : Index := 0#32
  ![v1011.toNat, 0]
def k0_off20 (d0 : Dev nD) : Fin 3 → Nat :=
  let c3_i32_947 : BitVec 32 := 3#32
  let c512_i32_35 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v61 : BitVec 1 := Scalar.cmpi .slt v2 c4_i32_33
  let c0_i32_34 : BitVec 32 := 0#32
  let c512_i32 : BitVec 32 := 512#32
  let v62 : BitVec 32 := Scalar.select v61 c0_i32_34 c512_i32
  let v63 : BitVec 32 := Scalar.subi c512_i32_35 v62
  let c0_i32_954 : BitVec 32 := 0#32
  ![3, v63.toNat, 0]
def k0_dev26 (d0 : Dev nD) : Nat :=
  let c0_i32_951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_950 : BitVec 32 := 1#32
  let v1058 : BitVec 32 := Scalar.muli v60 c1_i32_950
  let v1059 : BitVec 32 := Scalar.addi c0_i32_951 v1058
  v1059.toNat
def k0_dev27 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_993 : BitVec 32 := 1#32
  let v1099 : BitVec 32 := Scalar.muli v60 c1_i32_993
  let v1100 : BitVec 32 := Scalar.addi c0_i32_994 v1099
  v1100.toNat
def k0_off21 (d0 : Dev nD) : Fin 3 → Nat :=
  let c3_i32_1033 : BitVec 32 := 3#32
  let c512_i32_35 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v61 : BitVec 1 := Scalar.cmpi .slt v2 c4_i32_33
  let c0_i32_34 : BitVec 32 := 0#32
  let c512_i32 : BitVec 32 := 512#32
  let v62 : BitVec 32 := Scalar.select v61 c0_i32_34 c512_i32
  let v63 : BitVec 32 := Scalar.subi c512_i32_35 v62
  let c128_i32_1040 : BitVec 32 := 128#32
  ![3, v63.toNat, 128]
def k0_dev28 (d0 : Dev nD) : Nat :=
  let c0_i32_1037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_1036 : BitVec 32 := 1#32
  let v1140 : BitVec 32 := Scalar.muli v60 c1_i32_1036
  let v1141 : BitVec 32 := Scalar.addi c0_i32_1037 v1140
  v1141.toNat
def k0_dev29 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v50 : BitVec 32 := Scalar.addi v2 c4_i32_26
  let c8_i32_27 : BitVec 32 := 8#32
  let c0_i32_28 : BitVec 32 := 0#32
  let v51 : BitVec 1 := Scalar.cmpi .eq c8_i32_27 c0_i32_28
  let c1_i32_29 : BitVec 32 := 1#32
  let v52 : BitVec 32 := Scalar.select v51 c1_i32_29 c8_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1_i32_1079 : BitVec 32 := 1#32
  let v1181 : BitVec 32 := Scalar.muli v60 c1_i32_1079
  let v1182 : BitVec 32 := Scalar.addi c0_i32_1080 v1181
  v1182.toNat
def k0_dev30 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_1140 : BitVec 32 := 1#32
  let v1243 : BitVec 32 := Scalar.muli v36 c1_i32_1140
  let v1244 : BitVec 32 := Scalar.addi c0_i32_1141 v1243
  v1244.toNat
def k0_dev31 (d0 : Dev nD) : Nat :=
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_1201 : BitVec 32 := 1#32
  let v1305 : BitVec 32 := Scalar.muli v49 c1_i32_1201
  let v1306 : BitVec 32 := Scalar.addi c0_i32_1202 v1305
  v1306.toNat
def k0_dev32 (d0 : Dev nD) : Nat :=
  let c0_i32_1264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_11 : BitVec 32 := 1#32
  let v25 : BitVec 32 := Scalar.addi v12 c1_i32_11
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v36 : BitVec 32 := Scalar.addi v13 v35
  let c1_i32_1263 : BitVec 32 := 1#32
  let v1368 : BitVec 32 := Scalar.muli v36 c1_i32_1263
  let v1369 : BitVec 32 := Scalar.addi c0_i32_1264 v1368
  v1369.toNat
def k0_dev33 (d0 : Dev nD) : Nat :=
  let c0_i32_1325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c4_i32_18 : BitVec 32 := 4#32
  let v37 : BitVec 32 := Scalar.addi v12 c4_i32_18
  let c1_i32_19 : BitVec 32 := 1#32
  let v38 : BitVec 32 := Scalar.subi v37 c1_i32_19
  let c4_i32_20 : BitVec 32 := 4#32
  let c0_i32_21 : BitVec 32 := 0#32
  let v39 : BitVec 1 := Scalar.cmpi .eq c4_i32_20 c0_i32_21
  let c1_i32_22 : BitVec 32 := 1#32
  let v40 : BitVec 32 := Scalar.select v39 c1_i32_22 c4_i32_20
  let v41 : BitVec 32 := Scalar.remsi v38 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let v49 : BitVec 32 := Scalar.addi v13 v48
  let c1_i32_1324 : BitVec 32 := 1#32
  let v1430 : BitVec 32 := Scalar.muli v49 c1_i32_1324
  let v1431 : BitVec 32 := Scalar.addi c0_i32_1325 v1430
  v1431.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_1403 : BitVec 32 := 512#32
  let v1494 : BitVec 32 := Scalar.muli v12 c512_i32_1403
  let v1495 : Index := Scalar.indexCast v1494
  let c0_1404 : Index := 0#32
  ![v1495.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c512_i32_1412 : BitVec 32 := 512#32
  let v1511 : BitVec 32 := Scalar.muli v12 c512_i32_1412
  let v1512 : Index := Scalar.indexCast v1511
  let c768_1413 : Index := 768#32
  ![v1512.toNat, 768]
def k0_off24 (d0 : Dev nD) : Fin 3 → Nat :=
  let c3_1478 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v61 : BitVec 1 := Scalar.cmpi .slt v2 c4_i32_33
  let c0_i32_34 : BitVec 32 := 0#32
  let c512_i32 : BitVec 32 := 512#32
  let v62 : BitVec 32 := Scalar.select v61 c0_i32_34 c512_i32
  let v1573 : Index := Scalar.indexCast v62
  let c0_1479 : Index := 0#32
  ![3, v1573.toNat, 0]
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Prog.lean ====
/-
The kernel body as a program of few parametric pieces: the entry barrier, a read-modify-write of one window, a
transfer of each kind, the wait for one transfer, and the sequence they are run in. The printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.RS

open Cert.KernelIdeal Cert.KernelIdeal.Gen
open Idealize.ShloMosaic Idealize.SL.Sem
open Idealize.ShloMosaic.TcCoe

variable {F : FTy → Type} [FloatOps F]

/-- A program of the kernel body. -/
abbrev KP (F : FTy → Type) (α : Type) : Type _ := Prog (TpuEff nD τ sig (Elt F) Λ₀ .tc) α

/-! ## The buffers -/

abbrev Mx : Memref sig .tc .vmem S4096x512 .fp8e4m3 := Memref.whole cc0_stg0_0
abbrev Mw : Memref sig .tc .vmem S512x2048 .fp8e5m2 := Memref.whole cc0_stg1_0
abbrev Msx : Memref sig .tc .smem S1 .f32 := Memref.whole cc0_stg2_0
abbrev Msw : Memref sig .tc .smem S1 .f32 := Memref.whole cc0_stg3_0
abbrev Mo : Memref sig .tc .vmem S512x2048 .f32 := Memref.whole cc0_stg4_0
abbrev Mx8 : Memref sig .tc .vmem S4096x512 .fp8e4m3 := Memref.whole cc0_scratch0
abbrev Mw8 : Memref sig .tc .vmem S512x2048 .fp8e5m2 := Memref.whole cc0_scratch1
abbrev Msnd : Memref sig .tc .vmem S2048x1536 .fp8e4m3 := Memref.whole cc0_scratch6
abbrev Mmine : Memref sig .tc .vmem S2048x1536 .bf16 := Memref.whole cc0_scratch7
abbrev Mz : Memref sig .tc .vmem S2048x1536 .fp8e4m3 := Memref.whole cc0_scratch8

/-- The slabs of the first ring: clockwise (`false`) and counter-clockwise (`true`). -/
abbrev Ma : Bool → Memref sig .tc .vmem S4x1024x256 .bf16
  | false => Memref.whole cc0_scratch2
  | true => Memref.whole cc0_scratch3
/-- Where the other group's partial of the first ring lands. -/
abbrev Mza : Bool → Memref sig .tc .vmem S512x256 .bf16
  | false => Memref.whole cc0_scratch4
  | true => Memref.whole cc0_scratch5
/-- The slabs of the second ring. -/
abbrev Mb : Bool → Memref sig .tc .vmem S4x512x768 .bf16
  | false => Memref.whole cc0_scratch9
  | true => Memref.whole cc0_scratch10

theorem Ma_whole : ∀ d, (Ma d).IsWhole
  | false => Memref.isWhole_whole _
  | true => Memref.isWhole_whole _
theorem Mza_whole : ∀ d, (Mza d).IsWhole
  | false => Memref.isWhole_whole _
  | true => Memref.isWhole_whole _
theorem Mb_whole : ∀ d, (Mb d).IsWhole
  | false => Memref.isWhole_whole _
  | true => Memref.isWhole_whole _

/-! ## The semaphores -/

abbrev barS : Sem sig := (SemArray.scalar (sig.barrier 0 rfl) : Sems sig S_).sem

theorem inb42 : ∀ (h : Fin 4) (j : Fin 2), ∀ a, (![h.val, j.val] : Fin 2 → Nat) a + S1x1.size a ≤ S4x2.size a := by decide
theorem inb2 : ∀ (j : Fin 2), ∀ a, (![j.val] : Fin 1 → Nat) a + S1.size a ≤ S2.size a := by decide
theorem inb4 : ∀ (h : Fin 4), ∀ a, (![h.val] : Fin 1 → Nat) a + S1.size a ≤ S4.size a := by decide

/-- Element `(h, j)` of a 4 × 2 array of semaphores. -/
def at42 (s : DmaSems sig S4x2) (h : Fin 4) (j : Fin 2) : DmaSem sig :=
  ((s.slice (Rect.unit (s := S4x2) ![h.val, j.val] S1x1.size (inb42 h j))).squeeze S_ squeezes_S1x1_S_).sem
def at2 (s : DmaSems sig S2) (j : Fin 2) : DmaSem sig :=
  ((s.slice (Rect.unit (s := S2) ![j.val] S1.size (inb2 j))).squeeze S_ squeezes_S1_S_).sem
def at4 (s : DmaSems sig S4) (h : Fin 4) : DmaSem sig :=
  ((s.slice (Rect.unit (s := S4) ![h.val] S1.size (inb4 h))).squeeze S_ squeezes_S1_S_).sem

def bit (d : Bool) : Fin 2 := match d with | false => 0 | true => 1

def aSend : Bool → DmaSems sig S4x2 | false => cc0_scratch11 | true => cc0_scratch13
def aRecv : Bool → DmaSems sig S4x2 | false => cc0_scratch12 | true => cc0_scratch14
def zSend : Bool → DmaSems sig S2 | false => cc0_scratch15 | true => cc0_scratch17
def zRecv : Bool → DmaSems sig S2 | false => cc0_scratch16 | true => cc0_scratch18
def bSend : Bool → DmaSems sig S4 | false => cc0_scratch21 | true => cc0_scratch23
def bRecv : Bool → DmaSems sig S4 | false => cc0_scratch22 | true => cc0_scratch24

/-! ## The windows of transfers -/

theorem inbA : ∀ (h : Fin 4) (j : Fin 2), ∀ a, (![h.val, 0, 128 * j.val] : Fin 3 → Nat) a + S1x1024x128.size a ≤ S4x1024x256.size a := by decide
abbrev rA (h : Fin 4) (j : Fin 2) : Rect S4x1024x256 := Rect.unit (s := S4x1024x256) ![h.val, 0, 128 * j.val] S1x1024x128.size (inbA h j)
theorem wordsA : ∀ (h : Fin 4) (j : Fin 2), (rA h j).WholeWords (EltTy.packing .bf16) := by decide
abbrev vA (d : Bool) (h : Fin 4) (j : Fin 2) : Memref sig .tc .vmem S1024x128 .bf16 :=
  ((Ma d).slice (rA h j) (fun _ => rfl)).squeeze S1024x128 squeezes_S1x1024x128_S1024x128

theorem inbB : ∀ (h : Fin 4), ∀ a, (![h.val, 0, 0] : Fin 3 → Nat) a + S1x512x768.size a ≤ S4x512x768.size a := by decide
abbrev rB (h : Fin 4) : Rect S4x512x768 := Rect.unit (s := S4x512x768) ![h.val, 0, 0] S1x512x768.size (inbB h)
theorem wordsB : ∀ (h : Fin 4), (rB h).WholeWords (EltTy.packing .bf16) := by decide
theorem packedB : ∀ (h : Fin 4), (rB h).PackedRows (EltTy.packing .bf16) := by decide
abbrev vB (d : Bool) (h : Fin 4) : Memref sig .tc .vmem S512x768 .bf16 :=
  ((Mb d).slice (rB h) (fun _ => rfl)).squeeze S512x768 squeezes_S1x512x768_S512x768

theorem inbZ : ∀ (j : Fin 2), ∀ a, (![0, 128 * j.val] : Fin 2 → Nat) a + S512x128.size a ≤ S512x256.size a := by decide
abbrev rZ (j : Fin 2) : Rect S512x256 := Rect.unit (s := S512x256) ![0, 128 * j.val] S512x128.size (inbZ j)
theorem wordsZ : ∀ (j : Fin 2), (rZ j).WholeWords (EltTy.packing .bf16) := by decide
abbrev vZ (d : Bool) (j : Fin 2) : Memref sig .tc .vmem S512x128 .bf16 := (Mza d).slice (rZ j) (fun _ => rfl)

/-- The window the other group takes of the last slab, at offsets `o`. -/
abbrev vZs (d : Bool) (o : Fin 3 → Nat) (ho : ∀ a, o a + S1x512x128.size a ≤ S4x1024x256.size a) : Memref sig .tc .vmem S512x128 .bf16 :=
  ((Ma d).slice (Rect.unit (s := S4x1024x256) o S1x512x128.size ho) (fun _ => rfl)).squeeze S512x128 squeezes_S1x512x128_S512x128

abbrev rP (o : Fin 2 → Nat) (ho : ∀ a, o a + S512x768.size a ≤ S2048x1536.size a) : Rect S2048x1536 := Rect.unit (s := S2048x1536) o S512x768.size ho
abbrev vPs (o : Fin 2 → Nat) (ho : ∀ a, o a + S512x768.size a ≤ S2048x1536.size a) : Memref sig .tc .vmem S512x768 .fp8e4m3 := Msnd.slice (rP o ho) (fun _ => rfl)
abbrev vPd (o : Fin 2 → Nat) (ho : ∀ a, o a + S512x768.size a ≤ S2048x1536.size a) : Memref sig .tc .vmem S512x768 .fp8e4m3 := Mz.slice (rP o ho) (fun _ => rfl)

theorem wvA (d h j) : (vA d h j).view.WordExact := ((Ma_whole d).wordExact_slice rfl _ (wordsA h j)).reshape _ _
theorem wvB (d h) : (vB d h).view.WordExact := ((Mb_whole d).wordExact_slice rfl _ (wordsB h)).reshape _ _
theorem wvZ (d j) : (vZ d j).view.WordExact := (Mza_whole d).wordExact_slice rfl _ (wordsZ j)
theorem wvZs (d o ho) (hw : (Rect.unit (s := S4x1024x256) o S1x512x128.size ho).WholeWords (EltTy.packing .bf16)) : (vZs d o ho).view.WordExact :=
  ((Ma_whole d).wordExact_slice rfl _ hw).reshape _ _
theorem wvPs (o ho) (hw : (rP o ho).WholeWords (EltTy.packing .fp8e4m3)) : (vPs o ho).view.WordExact :=
  (Memref.isWhole_whole _ : Msnd.IsWhole).wordExact_slice rfl _ hw
theorem wvPd (o ho) (hw : (rP o ho).WholeWords (EltTy.packing .fp8e4m3)) : (vPd o ho).view.WordExact :=
  (Memref.isWhole_whole _ : Mz.IsWhole).wordExact_slice rfl _ hw

/-! ## The pieces -/

/-- Load a rectangle. -/
def ldP {s : Shape} {e : EltTy} (m : Memref sig .tc .vmem s e) (r : Rect s) (h : 0 < r.shape.numel) : KP F (r.shape.Idx → Elt F e) :=
  Prog.lift (.load m r.toLoadRect (View.loadsAt_vmem h))

/-- Load a rectangle (the value unused) and store over it. -/
def stP {s : Shape} {e : EltTy} (m : Memref sig .tc .vmem s e) (r : Rect s) (h : 0 < r.shape.numel)
    (hx : (m.access r).Stores Finset.univ) (w : r.shape.Idx → Elt F e) : KP F PUnit := do
  let _ ← Prog.lift (.load m r.toLoadRect (View.loadsAt_vmem h))
  Prog.lift (.store m r w Finset.univ hx (.inl rfl))

/-- Send a window to the same processor of another device. -/
def sendP {s : Shape} {e : EltTy} (dst : Dev nD) (src tgt : Memref sig .tc .vmem s e) (sS rS : DmaSem sig)
    (hs : src.view.WordExact) (ht : tgt.view.WordExact) : KP F PUnit :=
  Prog.lift (.enqueueDma src (.remote (Dev.tc dst) tgt (.dma sS)) (.dma rS) hs ht ⟨⟨rfl, Or.inl rfl⟩, trivial⟩)

/-- Wait for one transfer: for its source to be read, then for what its twin lands here. -/
def waitP {s : Shape} {e : EltTy} (src tgt : Memref sig .tc .vmem s e) (sS rS : DmaSem sig)
    (hs : src.view.WordExact) (ht : tgt.view.WordExact) : KP F PUnit := do
  Prog.lift (.waitDma2 sS tgt src ht hs)
  Prog.lift (.waitDma2 rS src tgt hs ht)

def barrierP (d1 d2 d3 : Dev nD) : KP F PUnit := do
  semSignalWord d1 barS 1#32
  semSignalWord d2 barS 1#32
  semSignalWord d3 barS 1#32
  semWaitWord barS 3#32

/-! ### Reading the operands -/

abbrev rX (o : Fin 2 → Nat) (ho : ∀ a, o a + S512x512.size a ≤ S4096x512.size a) : Rect S4096x512 := Rect.unit (s := S4096x512) o S512x512.size ho
theorem inbW : ∀ (d : Bool), ∀ a, (![0, 256 * (bit d).val] : Fin 2 → Nat) a + S512x256.size a ≤ S512x2048.size a := by decide
abbrev rW (d : Bool) : Rect S512x2048 := Rect.unit (s := S512x2048) ![0, 256 * (bit d).val] S512x256.size (inbW d)
theorem inbV : ∀ (d : Bool), ∀ a, (![0, 512 + 768 * (bit d).val] : Fin 2 → Nat) a + S512x768.size a ≤ S512x2048.size a := by decide
abbrev rV (d : Bool) : Rect S512x2048 := Rect.unit (s := S512x2048) ![0, 512 + 768 * (bit d).val] S512x768.size (inbV d)
abbrev rU : Rect S512x2048 := Rect.unit (s := S512x2048) ![0, 512] S512x1536.size inb_S512x2048_S512x1536_0_512

/-- One product of the first ring: 512 rows of `x` by 256 columns of `w`. -/
def mmA (x : Vec F S512x512 .fp8e4m3) (w : Vec F S512x256 .fp8e5m2) : FVec F S512x256 .f32 := k0_pay4 x w
def mmV (x : Vec F S512x512 .fp8e4m3) (w : Vec F S512x768 .fp8e5m2) : FVec F S512x768 .fp8e4m3 := k0_pay12 x w
def mmU (x : Vec F S512x512 .fp8e4m3) (w : Vec F S512x1536 .fp8e5m2) : FVec F S512x1536 .bf16 := k0_pay47 x w

def partP (d : Bool) (o : Fin 2 → Nat) (ho : ∀ a, o a + S512x512.size a ≤ S4096x512.size a) : KP F (FVec F S512x256 .f32) := do
  let x ← ldP Mx8 (rX o ho) h_S512x512
  let w ← ldP Mw8 (rW d) h_S512x256
  pure (mmA x w)

/-! ### The first ring -/

theorem inbI : ∀ (r : Fin 2), ∀ a, (![0, 512 * r.val, 0] : Fin 3 → Nat) a + S1x512x256.size a ≤ S4x1024x256.size a := by decide
abbrev rI (r : Fin 2) : Rect S4x1024x256 := Rect.unit (s := S4x1024x256) ![0, 512 * r.val, 0] S1x512x256.size (inbI r)
theorem packedI : ∀ (r : Fin 2), (rI r).PackedRows (EltTy.packing .bf16) := by decide
theorem inbC : ∀ (h : Fin 4) (r j : Fin 2), ∀ a, (![h.val, 512 * r.val, 128 * j.val] : Fin 3 → Nat) a + S1x512x128.size a ≤ S4x1024x256.size a := by decide
abbrev rC (h : Fin 4) (r j : Fin 2) : Rect S4x1024x256 := Rect.unit (s := S4x1024x256) ![h.val, 512 * r.val, 128 * j.val] S1x512x128.size (inbC h r j)
theorem packedC : ∀ (h : Fin 4) (r j : Fin 2), (rC h r j).PackedRows (EltTy.packing .bf16) := by decide

/-- The first slab's value from a product. -/
def iniA (a : FVec F S512x256 .f32) : FVec F S1x512x256 .bf16 := k0_pay5 a
/-- What a hop adds: half `j` of a product's columns. -/
def addA (j : Fin 2) (a : FVec F S512x256 .f32) (v : Vec F S1x512x128 .bf16) : FVec F S1x512x128 .bf16 :=
  match j with
  | 0 => k0_pay20 a v
  | 1 => k0_pay25 a v

def initAP (d : Bool) (r : Fin 2) (a : FVec F S512x256 .f32) : KP F PUnit :=
  stP (Ma d) (rI r) h_S1x512x256 (View.stores_vmem h_S1x512x256 ((Ma_whole d).storeExact_slice rfl _ (packedI r)) (fun _ => rfl)) (iniA a)

def accAP (d : Bool) (h : Fin 4) (r j : Fin 2) (a : FVec F S512x256 .f32) : KP F PUnit := do
  let v ← ldP (Ma d) (rC h r j) h_S1x512x128
  stP (Ma d) (rC h r j) h_S1x512x128 (View.stores_vmem h_S1x512x128 ((Ma_whole d).storeExact_slice rfl _ (packedC h r j)) (fun _ => rfl)) (addA j a v)

def sendAP (dst : Dev nD) (d : Bool) (h h' : Fin 4) (j : Fin 2) : KP F PUnit :=
  sendP dst (vA d h j) (vA d h' j) (at42 (aSend d) h j) (at42 (aRecv d) h' j) (wvA _ _ _) (wvA _ _ _)
def waitAP (d : Bool) (h h' : Fin 4) (j : Fin 2) : KP F PUnit :=
  waitP (vA d h j) (vA d h' j) (at42 (aSend d) h j) (at42 (aRecv d) h' j) (wvA _ _ _) (wvA _ _ _)

/-- One hop of the first ring at one half of the columns, one direction: wait, add both row halves. -/
def hopAP (d : Bool) (h h' : Fin 4) (j : Fin 2) (a b : FVec F S512x256 .f32) : KP F PUnit := do
  waitAP d h h' j
  accAP d h' 0 j a
  accAP d h' 1 j b

/-! ### The pushes to the other group -/

def pushP (dst : Dev nD) (d : Bool) (t : Fin 4) (o o' o'' : Fin 2 → Nat) (ho : ∀ a, o a + S512x512.size a ≤ S4096x512.size a)
    (ho' : ∀ a, o' a + S512x768.size a ≤ S2048x1536.size a) (ho'' : ∀ a, o'' a + S512x768.size a ≤ S2048x1536.size a)
    (hp : (rP o' ho').PackedRows (EltTy.packing .fp8e4m3)) (hw : (rP o'' ho'').WholeWords (EltTy.packing .fp8e4m3)) : KP F PUnit := do
  let x ← ldP Mx8 (rX o ho) h_S512x512
  let w ← ldP Mw8 (rV d) h_S512x768
  stP Msnd (rP o' ho') h_S512x768 (View.stores_vmem h_S512x768 ((Memref.isWhole_whole _ : Msnd.IsWhole).storeExact_slice rfl _ hp) (fun _ => rfl)) (mmV x w)
  sendP dst (vPs o'' ho'') (vPd o'' ho'') (at42 cc0_scratch19 t (bit d)) (at42 cc0_scratch20 t (bit d)) (wvPs _ _ hw) (wvPd _ _ hw)

def waitPP (d : Bool) (t : Fin 4) (o : Fin 2 → Nat) (ho : ∀ a, o a + S512x768.size a ≤ S2048x1536.size a)
    (hw : (rP o ho).WholeWords (EltTy.packing .fp8e4m3)) : KP F PUnit :=
  waitP (vPs o ho) (vPd o ho) (at42 cc0_scratch19 t (bit d)) (at42 cc0_scratch20 t (bit d)) (wvPs _ _ hw) (wvPd _ _ hw)

theorem inbM : ∀ (i : Fin 4), ∀ a, (![512 * i.val, 0] : Fin 2 → Nat) a + S512x1536.size a ≤ S2048x1536.size a := by decide
abbrev rM (i : Fin 4) : Rect S2048x1536 := Rect.unit (s := S2048x1536) ![512 * i.val, 0] S512x1536.size (inbM i)
theorem packedM : ∀ (i : Fin 4), (rM i).PackedRows (EltTy.packing .bf16) := by decide

def mineP (i : Fin 4) (o : Fin 2 → Nat) (ho : ∀ a, o a + S512x512.size a ≤ S4096x512.size a) : KP F PUnit := do
  let x ← ldP Mx8 (rX o ho) h_S512x512
  let w ← ldP Mw8 rU h_S512x1536
  stP Mmine (rM i) h_S512x1536 (View.stores_vmem h_S512x1536 ((Memref.isWhole_whole _ : Mmine.IsWhole).storeExact_slice rfl _ (packedM i)) (fun _ => rfl)) (mmU x w)

/-! ### The second ring -/

def iniB (y : Vec F S512x768 .bf16) (z : Vec F S512x768 .fp8e4m3) : FVec F S1x512x768 .bf16 := k0_pay51 y z
def addB (v : Vec F S1x512x768 .bf16) (y : Vec F S512x768 .bf16) (z : Vec F S512x768 .fp8e4m3) : FVec F S1x512x768 .bf16 := k0_pay65 v y z

def stB (d : Bool) (h : Fin 4) (w : FVec F S1x512x768 .bf16) : KP F PUnit :=
  stP (Mb d) (rB h) h_S1x512x768 (View.stores_vmem h_S1x512x768 ((Mb_whole d).storeExact_slice rfl _ (packedB h)) (fun _ => rfl)) w

def initBP (d : Bool) (o : Fin 2 → Nat) (ho : ∀ a, o a + S512x768.size a ≤ S2048x1536.size a) : KP F PUnit := do
  let y ← ldP Mmine (rP o ho) h_S512x768
  let z ← ldP Mz (rP o ho) h_S512x768
  stB d 0 (iniB y z)

def accBP (d : Bool) (h : Fin 4) (o : Fin 2 → Nat) (ho : ∀ a, o a + S512x768.size a ≤ S2048x1536.size a) : KP F PUnit := do
  let v ← ldP (Mb d) (rB h) h_S1x512x768
  let y ← ldP Mmine (rP o ho) h_S512x768
  let z ← ldP Mz (rP o ho) h_S512x768
  stB d h (addB v y z)

def sendBP (dst : Dev nD) (d : Bool) (h h' : Fin 4) : KP F PUnit :=
  sendP dst (vB d h) (vB d h') (at4 (bSend d) h) (at4 (bRecv d) h') (wvB _ _) (wvB _ _)
def waitBP (d : Bool) (h h' : Fin 4) : KP F PUnit :=
  waitP (vB d h) (vB d h') (at4 (bSend d) h) (at4 (bRecv d) h') (wvB _ _) (wvB _ _)

/-! ### The last exchange of the first ring -/

def sendZP (dst : Dev nD) (d : Bool) (j : Fin 2) (o : Fin 3 → Nat) (ho : ∀ a, o a + S1x512x128.size a ≤ S4x1024x256.size a)
    (hw : (Rect.unit (s := S4x1024x256) o S1x512x128.size ho).WholeWords (EltTy.packing .bf16)) : KP F PUnit :=
  sendP dst (vZs d o ho) (vZ d j) (at2 (zSend d) j) (at2 (zRecv d) j) (wvZs _ _ _ hw) (wvZ _ _)
def waitZP (d : Bool) (j : Fin 2) (o : Fin 3 → Nat) (ho : ∀ a, o a + S1x512x128.size a ≤ S4x1024x256.size a)
    (hw : (Rect.unit (s := S4x1024x256) o S1x512x128.size ho).WholeWords (EltTy.packing .bf16)) : KP F PUnit :=
  waitP (vZs d o ho) (vZ d j) (at2 (zSend d) j) (at2 (zRecv d) j) (wvZs _ _ _ hw) (wvZ _ _)

/-! ### The results -/

def finB (s : F .f32) (v : Vec F S1x512x768 .bf16) (y : Vec F S512x768 .bf16) (z : Vec F S512x768 .fp8e4m3) : FVec F S512x768 .f32 := k0_pay76 s v y z
def finA (s : F .f32) (v : Vec F S1x512x256 .bf16) (z : Vec F S512x256 .bf16) : FVec F S512x256 .f32 := k0_pay81 s (k0_pay77 v z)

def outBP (d : Bool) (o : Fin 2 → Nat) (ho : ∀ a, o a + S512x768.size a ≤ S2048x1536.size a) (s : F .f32) : KP F PUnit := do
  let v ← ldP (Mb d) (rB 3) h_S1x512x768
  let y ← ldP Mmine (rP o ho) h_S512x768
  let z ← ldP Mz (rP o ho) h_S512x768
  stP Mo (rV d) h_S512x768 (View.stores_vmem_bits_univ h_S512x768 rfl) (finB s v y z)

abbrev rZ0 : Rect S512x256 := Rect.unit (s := S512x256) ![0, 0] S512x256.size inb_S512x256_S512x256_0_0

def lastA (d : Bool) (o : Fin 3 → Nat) (ho : ∀ a, o a + S1x512x256.size a ≤ S4x1024x256.size a) : KP F (Vec F S1x512x256 .bf16 ×' Vec F S512x256 .bf16) := do
  let v ← ldP (Ma d) (Rect.unit (s := S4x1024x256) o S1x512x256.size ho) h_S1x512x256
  let z ← ldP (Mza d) rZ0 h_S512x256
  pure ⟨v, z⟩

def outAP (d : Bool) (w : FVec F S512x256 .f32) : KP F PUnit :=
  stP Mo (rW d) h_S512x256 (View.stores_vmem_bits_univ h_S512x256 rfl) w

/-! ### The operands, copied -/

abbrev rX0 : Rect S4096x512 := Rect.unit (s := S4096x512) ![0, 0] S4096x512.size inb_S4096x512_S4096x512_0_0
abbrev rW0 : Rect S512x2048 := Rect.unit (s := S512x2048) ![0, 0] S512x512.size inb_S512x2048_S512x512_0_0

def copyXP : KP F PUnit := do
  let v ← ldP Mx rX0 h_S4096x512
  stP Mx8 rX0 h_S4096x512 (View.stores_vmem h_S4096x512 ((Memref.isWhole_whole _ : Mx8.IsWhole).storeExact_slice rfl _ packedfp8e4m3_S4096x512_S4096x512_0_0) (fun _ => rfl)) (k0_pay2 v)
def copyW0P : KP F PUnit := do
  let v ← ldP Mw rW0 h_S512x512
  stP Mw8 rW0 h_S512x512 (View.stores_vmem h_S512x512 ((Memref.isWhole_whole _ : Mw8.IsWhole).storeExact_slice rfl _ packedfp8e5m2_S512x2048_S512x512_0_0) (fun _ => rfl)) (k0_pay3 v)
def copyW1P : KP F PUnit := do
  let v ← ldP Mw rU h_S512x1536
  stP Mw8 rU h_S512x1536 (View.stores_vmem h_S512x1536 ((Memref.isWhole_whole _ : Mw8.IsWhole).storeExact_slice rfl _ packedfp8e5m2_S512x2048_S512x1536_0_512) (fun _ => rfl)) (k0_pay11 (k0_pay10 v))

def scaleP : KP F (F .f32) := do
  let a ← smemLoad Msx (Rect.unit (s := S1) ![0] S1.size inb_S1_S1_0) numel1_S1 rfl
  let b ← smemLoad Msw (Rect.unit (s := S1) ![0] S1.size inb_S1_S1_0) numel1_S1 rfl
  pure (k0_pay73 a b)

/-! ## The sequence -/

def seqP (c : Dev nD) : KP F PUnit := do
  barrierP ⟨k0_dev1 c, k0_dev1_lt c⟩ ⟨k0_dev2 c, k0_dev2_lt c⟩ ⟨k0_dev3 c, k0_dev3_lt c⟩
  copyXP
  copyW0P
  let a ← partP false (k0_off1 c) (k0_off1_inb c)
  let b ← partP false (k0_off2 c) (k0_off2_inb c)
  initAP false 0 a
  initAP false 1 b
  let a ← partP true (k0_off3 c) (k0_off3_inb c)
  let b ← partP true (k0_off4 c) (k0_off4_inb c)
  initAP true 0 a
  initAP true 1 b
  sendAP ⟨k0_dev4 c, k0_dev4_lt c⟩ false 0 1 0
  sendAP ⟨k0_dev5 c, k0_dev5_lt c⟩ true 0 1 0
  sendAP ⟨k0_dev6 c, k0_dev6_lt c⟩ false 0 1 1
  sendAP ⟨k0_dev7 c, k0_dev7_lt c⟩ true 0 1 1
  copyW1P
  pushP ⟨k0_dev8 c, k0_dev8_lt c⟩ false 0 _ _ _ (k0_off5_inb c 0) (k0_off6_inb c 0) (k0_off7_inb c 0) (k0_off6_packedfp8e4m3 c 0) (k0_off7_wordsfp8e4m3 c 0)
  pushP ⟨k0_dev9 c, k0_dev9_lt c⟩ true 0 _ _ _ (k0_off8_inb c 0) (k0_off9_inb c 0) (k0_off10_inb c 0) (k0_off9_packedfp8e4m3 c 0) (k0_off10_wordsfp8e4m3 c 0)
  pushP ⟨k0_dev10 c, k0_dev10_lt c⟩ false 1 _ _ _ (k0_off5_inb c 1) (k0_off6_inb c 1) (k0_off7_inb c 1) (k0_off6_packedfp8e4m3 c 1) (k0_off7_wordsfp8e4m3 c 1)
  pushP ⟨k0_dev11 c, k0_dev11_lt c⟩ true 1 _ _ _ (k0_off8_inb c 1) (k0_off9_inb c 1) (k0_off10_inb c 1) (k0_off9_packedfp8e4m3 c 1) (k0_off10_wordsfp8e4m3 c 1)
  let a ← partP false _ (k0_off11_inb c 0)
  let b ← partP false _ (k0_off12_inb c 0)
  let a' ← partP true _ (k0_off13_inb c 0)
  let b' ← partP true _ (k0_off14_inb c 0)
  hopAP false 0 1 0 a b
  sendAP ⟨k0_dev12 c, k0_dev12_lt c⟩ false 1 2 0
  hopAP true 0 1 0 a' b'
  sendAP ⟨k0_dev13 c, k0_dev13_lt c⟩ true 1 2 0
  hopAP false 0 1 1 a b
  sendAP ⟨k0_dev14 c, k0_dev14_lt c⟩ false 1 2 1
  hopAP true 0 1 1 a' b'
  sendAP ⟨k0_dev15 c, k0_dev15_lt c⟩ true 1 2 1
  pushP ⟨k0_dev16 c, k0_dev16_lt c⟩ false 2 _ _ _ (k0_off5_inb c 2) (k0_off6_inb c 2) (k0_off7_inb c 2) (k0_off6_packedfp8e4m3 c 2) (k0_off7_wordsfp8e4m3 c 2)
  pushP ⟨k0_dev17 c, k0_dev17_lt c⟩ true 2 _ _ _ (k0_off8_inb c 2) (k0_off9_inb c 2) (k0_off10_inb c 2) (k0_off9_packedfp8e4m3 c 2) (k0_off10_wordsfp8e4m3 c 2)
  let a ← partP false _ (k0_off11_inb c 1)
  let b ← partP false _ (k0_off12_inb c 1)
  let a' ← partP true _ (k0_off13_inb c 1)
  let b' ← partP true _ (k0_off14_inb c 1)
  hopAP false 1 2 0 a b
  sendAP ⟨k0_dev18 c, k0_dev18_lt c⟩ false 2 3 0
  hopAP true 1 2 0 a' b'
  sendAP ⟨k0_dev19 c, k0_dev19_lt c⟩ true 2 3 0
  hopAP false 1 2 1 a b
  sendAP ⟨k0_dev20 c, k0_dev20_lt c⟩ false 2 3 1
  hopAP true 1 2 1 a' b'
  sendAP ⟨k0_dev21 c, k0_dev21_lt c⟩ true 2 3 1
  pushP ⟨k0_dev22 c, k0_dev22_lt c⟩ false 3 _ _ _ (k0_off5_inb c 3) (k0_off6_inb c 3) (k0_off7_inb c 3) (k0_off6_packedfp8e4m3 c 3) (k0_off7_wordsfp8e4m3 c 3)
  pushP ⟨k0_dev23 c, k0_dev23_lt c⟩ true 3 _ _ _ (k0_off8_inb c 3) (k0_off9_inb c 3) (k0_off10_inb c 3) (k0_off9_packedfp8e4m3 c 3) (k0_off10_wordsfp8e4m3 c 3)
  mineP 0 _ (k0_off15_inb c 0)
  mineP 1 _ (k0_off15_inb c 1)
  mineP 2 _ (k0_off15_inb c 2)
  mineP 3 _ (k0_off15_inb c 3)
  waitPP false 0 _ (k0_off7_inb c 0) (k0_off7_wordsfp8e4m3 c 0)
  initBP false _ (k0_off16_inb c)
  sendBP ⟨k0_dev24 c, k0_dev24_lt c⟩ false 0 1
  waitPP true 0 _ (k0_off10_inb c 0) (k0_off10_wordsfp8e4m3 c 0)
  initBP true _ (k0_off17_inb c)
  sendBP ⟨k0_dev25 c, k0_dev25_lt c⟩ true 0 1
  let a ← partP false _ (k0_off18_inb c)
  let b ← partP false _ (k0_off19_inb c)
  let a' ← partP true _ (k0_off18_inb c)
  let b' ← partP true _ (k0_off19_inb c)
  hopAP false 2 3 0 a b
  sendZP ⟨k0_dev26 c, k0_dev26_lt c⟩ false 0 _ (k0_off20_inb c) (k0_off20_wordsbf16 c)
  hopAP true 2 3 0 a' b'
  sendZP ⟨k0_dev27 c, k0_dev27_lt c⟩ true 0 _ (k0_off20_inb c) (k0_off20_wordsbf16 c)
  hopAP false 2 3 1 a b
  sendZP ⟨k0_dev28 c, k0_dev28_lt c⟩ false 1 _ (k0_off21_inb c) (k0_off21_wordsbf16 c)
  hopAP true 2 3 1 a' b'
  sendZP ⟨k0_dev29 c, k0_dev29_lt c⟩ true 1 _ (k0_off21_inb c) (k0_off21_wordsbf16 c)
  waitPP false 1 _ (k0_off7_inb c 1) (k0_off7_wordsfp8e4m3 c 1)
  waitBP false 0 1
  accBP false 1 _ (k0_off6_inb c 1)
  sendBP ⟨k0_dev30 c, k0_dev30_lt c⟩ false 1 2
  waitPP true 1 _ (k0_off10_inb c 1) (k0_off10_wordsfp8e4m3 c 1)
  waitBP true 0 1
  accBP true 1 _ (k0_off9_inb c 1)
  sendBP ⟨k0_dev31 c, k0_dev31_lt c⟩ true 1 2
  waitPP false 2 _ (k0_off7_inb c 2) (k0_off7_wordsfp8e4m3 c 2)
  waitBP false 1 2
  accBP false 2 _ (k0_off6_inb c 2)
  sendBP ⟨k0_dev32 c, k0_dev32_lt c⟩ false 2 3
  waitPP true 2 _ (k0_off10_inb c 2) (k0_off10_wordsfp8e4m3 c 2)
  waitBP true 1 2
  accBP true 2 _ (k0_off9_inb c 2)
  sendBP ⟨k0_dev33 c, k0_dev33_lt c⟩ true 2 3
  let s ← scaleP
  waitPP false 3 _ (k0_off7_inb c 3) (k0_off7_wordsfp8e4m3 c 3)
  waitPP true 3 _ (k0_off10_inb c 3) (k0_off10_wordsfp8e4m3 c 3)
  waitBP false 2 3
  waitBP true 2 3
  outBP false _ (k0_off22_inb c) s
  outBP true _ (k0_off23_inb c) s
  waitZP false 0 _ (k0_off20_inb c) (k0_off20_wordsbf16 c)
  waitZP true 0 _ (k0_off20_inb c) (k0_off20_wordsbf16 c)
  waitZP false 1 _ (k0_off21_inb c) (k0_off21_wordsbf16 c)
  waitZP true 1 _ (k0_off21_inb c) (k0_off21_wordsbf16 c)
  let p ← lastA false _ (k0_off24_inb c)
  let q ← lastA true _ (k0_off24_inb c)
  outAP false (finA s p.1 p.2)
  outAP true (finA s q.1 q.2)

def wholeP : KP F PUnit := do
  let c ← Prog.lift .deviceId
  seqP c

set_option maxRecDepth 65536 in
/-- The printed body, at the buffers it is launched on, is the sequence. -/
theorem body_eq (t : Fin cfg0.N) : bodyAt0 (F := F) t = wholeP := rfl

end Cert.KernelIdeal.RS
end
-- ==== Proof.KernelIdeal.Own.lean ====
/-
A set of a memref's indices, held at given contents: how such pieces split, join, change the window they are seen
through, and what a load and a store do to them.
-/
module

public import proofs.«01_k».proof.Proof.KernelIdeal.Prog

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy and the one of this kernel's cells, whose duties are numbered. -/
abbrev UB : Type := URounds (GSem nD τ sig) (Fin 3)
abbrev UU : Type := UR sig nD τ × UB

abbrev MM (F : FTy → Type) : Type := MT nD τ sig Unit (Elt F) ℕ UU ℕ

abbrev EP : Emb (UR sig nD τ) (MM F) := embL
abbrev ER : Emb UB (MM F) := embR

instance elt_nonempty : ∀ e, Nonempty (Elt F e)
  | .i1 => ⟨0#1⟩ | .i4 => ⟨0#4⟩ | .i8 => ⟨0#8⟩ | .i16 => ⟨0#16⟩ | .i32 => ⟨0#32⟩ | .i64 => ⟨0#64⟩
  | .fp8e4m3 => ⟨(Scalar.ofBits .fp8e4m3 0#_ : F .fp8e4m3)⟩ | .fp8e5m2 => ⟨(Scalar.ofBits .fp8e5m2 0#_ : F .fp8e5m2)⟩
  | .bf16 => ⟨(Scalar.ofBits .bf16 0#_ : F .bf16)⟩ | .f16 => ⟨(Scalar.ofBits .f16 0#_ : F .f16)⟩ | .f32 => ⟨(Scalar.ofBits .f32 0#_ : F .f32)⟩

section
variable {sp : Space} {s s' : Shape} {e : EltTy} (c : Dev nD)

/-- The elements of device `c`'s `m` under the indices `I`, held whole at `g`. -/
def Own (m : Memref sig .tc sp s e) (I : Finset s.Idx) (g : s.Idx → Elt F e) : sProp (MM F) :=
  m.view.loc (c : Thread nD τ) ↦[m.view.setOn I]{fullShare} m.view.rep g

instance own_storable (m : Memref sig .tc sp s e) (I : Finset s.Idx) (g : s.Idx → Elt F e) :
    BI.Storable (upEmb : UEmb _ (MM F)) (Own c m I g) := by unfold Own; infer_instance

variable {m : Memref sig .tc sp s e} {I J : Finset s.Idx} {g g' : s.Idx → Elt F e}

theorem own_of (f : Buf (Elt F) (m.view.loc (c : Thread nD τ))) :
    (m.view.loc (c : Thread nD τ) ↦[m.view.setOn I]{fullShare} f : sProp (MM F)) = Own c m I (m.view.read (Elt F) f) := by
  unfold Own
  refine pointsTo_congr fun i hi => ?_
  obtain ⟨x, -, rfl⟩ := Finset.mem_map.mp hi
  rw [View.rep_emb, View.read_apply, cast_cast, cast_eq]

theorem own_congr (h : ∀ i ∈ I, g i = g' i) : Own c m I g = Own c m I g' := by
  unfold Own
  refine pointsTo_congr fun i hi => ?_
  obtain ⟨x, hx, rfl⟩ := Finset.mem_map.mp hi
  rw [View.rep_emb, View.rep_emb, h x hx]

theorem own_union (h : Disjoint I J) : Own c m (I ∪ J) g = iprop(Own c m I g ∗ Own c m J g) := by
  unfold Own
  rw [show m.view.setOn (I ∪ J) = m.view.setOn I ∪ m.view.setOn J from Finset.map_union ..]
  have h' := pointsTo_union (Ix := Unit) (Name := ℕ) (U := UU) (Lvl := ℕ) (ℓ := m.view.loc (c : Thread nD τ)) (q := fullShare) (f := m.view.rep g) ((Finset.disjoint_map m.view.emb).mpr h)
  exact BI.equiv_iff.mp ⟨h'.1, h'.2⟩

theorem own_biUnion {T : Type} [DecidableEq T] (S : Finset T) (K : T → Finset s.Idx)
    (h : ∀ t ∈ S, ∀ t' ∈ S, t ≠ t' → Disjoint (K t) (K t')) :
    Own c m (S.biUnion K) g = bigSep S fun t => Own c m (K t) g := by
  classical
  induction S using Finset.induction_on with
  | empty => rw [Finset.biUnion_empty, bigSep_empty]; unfold Own View.setOn; rw [Finset.map_empty]; exact pointsTo_empty
  | insert t S ht ih =>
    rw [Finset.biUnion_insert, bigSep_insert ht, own_union c ((Finset.disjoint_biUnion_right _ _ _).mpr fun t' ht' =>
        h t (Finset.mem_insert_self _ _) t' (Finset.mem_insert_of_mem ht') fun e => ht (e ▸ ht')),
      ih fun t₁ h₁ t₂ h₂ => h t₁ (Finset.mem_insert_of_mem h₁) t₂ (Finset.mem_insert_of_mem h₂)]
    rfl

/-- A whole memref as the fibres of a function of its index. -/
theorem own_fibres {T : Type} [Fintype T] [DecidableEq T] (p : s.Idx → T) (K : T → Finset s.Idx) (hK : ∀ i t, i ∈ K t ↔ p i = t) :
    Own c m Finset.univ g = bigSep Finset.univ fun t => Own c m (K t) g := by
  rw [← own_biUnion c Finset.univ K fun t _ t' _ hne => Finset.disjoint_left.mpr fun i hi hi' => hne (((hK i t).mp hi).symm.trans ((hK i t').mp hi'))]
  congr 1
  ext i
  simp only [Finset.mem_univ, Finset.mem_biUnion, true_and, true_iff]
  exact ⟨p i, (hK i _).mpr rfl⟩

/-- Pieces at different contents, joined at some contents. -/
theorem own_join {K : Finset s.Idx} (h : Disjoint I J) (hK : I ∪ J = K) :
    iprop((∃ g, Own (F := F) c m I g) ∗ ∃ g, Own c m J g) ⊢ iprop(∃ g, Own c m K g) := by
  subst hK
  iintro ⟨⟨%g, H⟩, %g', H'⟩
  unfold Own
  iexists (m.view.read (Elt F) ((m.view.setOn J).piecewise (m.view.rep g') (m.view.rep g)))
  rw [show (m.view.loc (c : Thread nD τ) ↦[m.view.setOn (I ∪ J)]{fullShare} m.view.rep (m.view.read (Elt F) ((m.view.setOn J).piecewise (m.view.rep g') (m.view.rep g))) : sProp (MM F))
      = (m.view.loc (c : Thread nD τ) ↦[m.view.setOn (I ∪ J)]{fullShare} ((m.view.setOn J).piecewise (m.view.rep g') (m.view.rep g))) from (own_of c _).symm,
    show m.view.setOn (I ∪ J) = m.view.setOn I ∪ m.view.setOn J from Finset.map_union ..]
  iapply (pointsTo_join ((Finset.disjoint_map _).mpr h))
  isplitl [H]; · iexact H
  iexact H'

/-- A window of a memref, whole, is its rectangle of the memref. -/
theorem own_slice {r : Rect s} {hr : ∀ a, r.stride a = 1} :
    Own c (m.slice r hr) Finset.univ (fun j => g (r.emb j)) = Own c m r.set g := by
  unfold Own
  rw [View.setOn_univ, show (m.slice r hr).view.set = m.view.setOn r.set from View.set_slice _ r]
  refine pointsTo_congr fun i hi => ?_
  obtain ⟨x, hx, rfl⟩ := Finset.mem_map.mp hi
  rw [← Rect.map_emb_univ] at hx
  obtain ⟨j, -, rfl⟩ := Finset.mem_map.mp hx
  rw [View.rep_emb]
  exact (View.rep_emb (m.slice r hr).view _ j)

theorem own_squeeze {h : s.Squeezes s'} :
    Own c (m.squeeze s' h) Finset.univ (fun k => g (Shape.reshapeEquiv h.numel_eq k)) = Own c m Finset.univ g := by
  unfold Own
  rw [View.setOn_univ, View.setOn_univ, show (m.squeeze s' h).view.set = m.view.set from View.set_reshape _ _]
  refine pointsTo_congr fun i hi => ?_
  obtain ⟨x, hx, rfl⟩ := Finset.mem_map.mp hi
  obtain ⟨k, rfl⟩ := (Shape.reshapeEquiv h.numel_eq).surjective x
  rw [View.rep_emb]
  exact (View.rep_emb (m.squeeze s' h).view _ k)

/-- A window of a memref with its unit axes dropped. -/
theorem own_window {r : Rect s} {hr : ∀ a, r.stride a = 1} {h : r.shape.Squeezes s'} {g' : s'.Idx → Elt F e}
    (hg : ∀ k, g' k = g (r.emb (Shape.reshapeEquiv h.numel_eq k))) :
    Own c ((m.slice r hr).squeeze s' h) Finset.univ g' = Own c m r.set g := by
  rw [← own_slice (hr := hr), ← own_squeeze (h := h)]
  exact own_congr c fun k _ => hg k

/-- A whole buffer, held at `f`. -/
theorem own_whole (b : Ref sig .tc) (f : Buf (Elt F) ((c : Thread nD τ).loc b)) :
    (((c : Thread nD τ).loc b) ↦{fullShare} f : sProp (MM F)) = Own c (Memref.whole b) Finset.univ f := by
  have h := own_of (F := F) (m := Memref.whole b) c (I := Finset.univ) f
  rw [show (Memref.whole b).view.setOn Finset.univ = Finset.univ from View.set_whole b] at h
  exact h.trans (congrArg _ (View.read_whole b f))

end

/-! ## Loads and stores -/

abbrev 𝒱₀ : Variants := Variants.none

/-- Device `c`'s obligation for the program `p` with the postcondition `Q`. -/
abbrev WP {α : Type} (c : Dev nD) (p : KP F α) (Q : α → sProp (MM F)) : sProp (MM F) :=
  wp frame (wpE (defs₀ (F := F)) 𝒱₀ (c : Thread nD τ) none) Set.univ p Q

section
variable {s : Shape} {e : EltTy} (c : Dev nD) {α : Type} {Q : α → sProp (MM F)}

theorem wp_ld {m : Memref sig .tc .vmem s e} {r : Rect s} {h : 0 < r.shape.numel} {I : Finset s.Idx} {g : s.Idx → Elt F e}
    {k : (r.shape.Idx → Elt F e) → KP F α} (hI : r.set ⊆ I) :
    Own c m I g ⊢ iprop((Own c m I g -∗ WP c (k fun j => g (r.emb j)) Q) -∗ WP c (ldP m r h >>= k) Q) := by
  unfold Own
  have := wp_load (defs := defs₀ (F := F)) 𝒱₀ (c : Thread nD τ) none Set.univ (m := m) (r := r.toLoadRect) (hl := View.loadsAt_vmem h) (k := k) (Q := Q)
    (Γ := .empty) (q := fullShare) (f := m.view.rep g) (S := m.view.setOn I) (Finset.map_subset_map.mpr hI)
  rw [View.readAt_rep] at this
  exact this

theorem wp_st {m : Memref sig .tc .vmem s e} {r : Rect s} {h : 0 < r.shape.numel} {hx} {I : Finset s.Idx} {g g' : s.Idx → Elt F e} {w : r.shape.Idx → Elt F e}
    {k : PUnit → KP F α} (hI : r.set ⊆ I) (h1 : ∀ j, g' (r.emb j) = w j) (h2 : ∀ i ∈ I, i ∉ r.set → g' i = g i) :
    Own c m I g ⊢ iprop((Own c m I g' -∗ WP c (k ⟨⟩) Q) -∗ WP c (stP m r h hx w >>= k) Q) := by
  have hS : (m.access r).setOn Finset.univ ⊆ m.view.setOn I := by
    rw [View.setOn_univ, show (m.access r).set = m.view.setOn r.set from View.set_slice _ r]; exact Finset.map_subset_map.mpr hI
  have hst := wp_store (defs := defs₀ (F := F)) 𝒱₀ (c : Thread nD τ) none Set.univ (m := m) (r := r) (w := w) (Mk := Finset.univ) (hx := hx) (hm := .inl rfl) (k := k) (Q := Q)
    (Γ := .empty) (f := m.view.rep g) (S := m.view.setOn I) hS
  have heq : (m.view.loc (c : Thread nD τ) ↦[m.view.setOn I]{fullShare} ((m.access r).write (Elt F) (m.view.rep g) w Finset.univ) : sProp (MM F))
      = Own c m I g' := by
    unfold Own
    refine pointsTo_congr fun i hi => ?_
    obtain ⟨x, hx, rfl⟩ := Finset.mem_map.mp hi
    by_cases hr : x ∈ r.set
    · rw [← Rect.map_emb_univ] at hr
      obtain ⟨j, -, rfl⟩ := Finset.mem_map.mp hr
      rw [View.rep_emb, h1]
      exact View.write_emb_of_mem (v := m.view.slice r) _ _ (Finset.mem_univ j)
    · rw [View.rep_emb, h2 x hx hr, ← View.rep_emb m.view g x]
      refine View.write_of_not_mem (v := m.view.slice r) _ _ _ fun hm => hr ?_
      rw [View.setOn_univ, View.set_slice] at hm
      exact (View.mem_setOn (v := m.view)).mp hm
  refine (wp_ld c (Q := Q) (m := m) (r := r) (h := h) (g := g) (k := fun _ => Prog.lift (.store m r w Finset.univ hx (.inl rfl)) >>= k) hI).trans ?_
  have hst' : Own c m I g ⊢ iprop((Own c m I g' -∗ WP c (k ⟨⟩) Q) -∗ WP c (Prog.lift (.store m r w Finset.univ hx (.inl rfl)) >>= k) Q) := by
    rw [← heq]; exact hst
  iintro H Hk
  iapply H
  iintro H
  ihave H := hst' $$ H
  iapply H
  iexact Hk

end

end Cert.KernelIdeal.RS
end
-- ==== Proof.KernelIdeal.Contents.lean ====
/-
The eight devices in two groups of four, the thirty transfers of a device, the windows they move between, and what each
window holds: the contents of every slab as a function of the devices' operands.
-/
module

public import proofs.«01_k».proof.Proof.KernelIdeal.Own
public import Idealize.ShloMosaic.Lib.ValueIdx

@[expose] public section

noncomputable section

namespace Cert.KernelIdeal.RS

open Cert.KernelIdeal Cert.KernelIdeal.Gen
open Idealize.ShloMosaic
open Idealize.ShloMosaic.TcCoe
open Idealize.ShloMosaic.ValueIdx (ix2 ix3)

variable {F : FTy → Type} [FloatOps F]

/-! ## The devices -/

set_option backward.proofsInPublic true in
/-- The next device of the group, the one before, and the one in the other group. -/
def rt (c : Dev nD) : Dev nD := ⟨4 * (c.val / 4) + (c.val % 4 + 1) % 4, by have : c.val < 8 := c.isLt; show _ < 8; omega⟩
set_option backward.proofsInPublic true in
def lf (c : Dev nD) : Dev nD := ⟨4 * (c.val / 4) + (c.val % 4 + 3) % 4, by have : c.val < 8 := c.isLt; show _ < 8; omega⟩
set_option backward.proofsInPublic true in
def zp (c : Dev nD) : Dev nD := ⟨(c.val + 4) % 8, by show _ < 8; omega⟩

/-- Where a ring's transfers go, and come from. -/
def dn : Bool → Dev nD → Dev nD | false => rt | true => lf
def up : Bool → Dev nD → Dev nD | false => lf | true => rt

theorem rt_lf : ∀ c, rt (lf c) = c := by decide
theorem lf_rt : ∀ c, lf (rt c) = c := by decide
theorem zp_zp : ∀ c, zp (zp c) = c := by decide
theorem dn_up (d : Bool) (c) : dn d (up d c) = c := by cases d; exacts [rt_lf c, lf_rt c]
theorem up_dn (d : Bool) (c) : up d (dn d c) = c := by cases d; exacts [lf_rt c, rt_lf c]

/-- The chunk device `c` works on at hop `h` of a ring. -/
def ci (d : Bool) (c : Dev nD) (h : Fin 4) : Fin 4 :=
  match d with
  | false => ⟨(c.val % 4 + 3 - h.val) % 4, by omega⟩
  | true => ⟨(c.val % 4 + 1 + h.val) % 4, by omega⟩
/-- The hop at which device `c` works on a chunk. -/
def hi (d : Bool) (c : Dev nD) (k : Fin 4) : Fin 4 :=
  match d with
  | false => ⟨(c.val % 4 + 7 - k.val) % 4, by omega⟩
  | true => ⟨(k.val + 7 - c.val % 4) % 4, by omega⟩
theorem hi_iff : ∀ (d : Bool) (c : Dev nD) (k h : Fin 4), k = ci d c h ↔ hi d c k = h := by decide
theorem ci_zp : ∀ (d : Bool) (c : Dev nD) (h : Fin 4), ci d (zp c) h = ci d c h := by decide

/-- The block of 512 rows of the operand multiplied: in the first ring for row half `r`, for the other group, for the own group. -/
def kA (d : Bool) (c : Dev nD) (h : Fin 4) (r : Fin 2) : Fin 8 := ⟨(ci d c h).val + 4 * r.val, by omega⟩
def kP (d : Bool) (c : Dev nD) (t : Fin 4) : Fin 8 := ⟨4 * ((c.val / 4 + 1) % 2) + (ci d c t).val, by omega⟩
def kM (c : Dev nD) (i : Fin 4) : Fin 8 := ⟨4 * (c.val / 4 % 2) + i.val, by omega⟩

/-- The row offset of the half a device keeps of a chunk's pair of blocks, and of the half it gives to the other group. -/
def myO (c : Dev nD) : Nat := if c.val < 4 then 0 else 512
def paO (c : Dev nD) : Nat := if c.val < 4 then 512 else 0
theorem paO_zp : ∀ c, paO (zp c) = myO c := by decide
theorem myO_le (c) : myO c ≤ 512 := by unfold myO; split <;> omega
theorem paO_le (c) : paO c ≤ 512 := by unfold paO; split <;> omega

/-! ## The offsets -/

abbrev offX (k : Fin 8) : Fin 2 → Nat := ![512 * k.val, 0]
abbrev offP (d : Bool) (c : Dev nD) (t : Fin 4) : Fin 2 → Nat := ![512 * (ci d c t).val, 768 * (bit d).val]
abbrev offZ (c : Dev nD) (j : Fin 2) : Fin 3 → Nat := ![3, paO c, 128 * j.val]
abbrev offY (c : Dev nD) : Fin 3 → Nat := ![3, myO c, 0]

theorem inbX : ∀ k : Fin 8, ∀ a, offX k a + S512x512.size a ≤ S4096x512.size a := by decide
theorem inbP : ∀ (d : Bool) (c : Dev nD) (t : Fin 4), ∀ a, offP d c t a + S512x768.size a ≤ S2048x1536.size a := by decide
theorem inbZs : ∀ (c : Dev nD) (j : Fin 2), ∀ a, offZ c j a + S1x512x128.size a ≤ S4x1024x256.size a := by decide
theorem inbY : ∀ (c : Dev nD), ∀ a, offY c a + S1x512x256.size a ≤ S4x1024x256.size a := by decide
theorem wordsP : ∀ (d : Bool) (c : Dev nD) (t : Fin 4), (rP (offP d c t) (inbP d c t)).WholeWords (EltTy.packing .fp8e4m3) := by decide
theorem packedP : ∀ (d : Bool) (c : Dev nD) (t : Fin 4), (rP (offP d c t) (inbP d c t)).PackedRows (EltTy.packing .fp8e4m3) := by decide
theorem wordsZs : ∀ (c : Dev nD) (j : Fin 2), (Rect.unit (s := S4x1024x256) (offZ c j) S1x512x128.size (inbZs c j)).WholeWords (EltTy.packing .bf16) := by decide

theorem off1 : ∀ c, k0_off1 c = offX (kA false c 0 0) := by decide +kernel
theorem off2 : ∀ c, k0_off2 c = offX (kA false c 0 1) := by decide +kernel
theorem off3 : ∀ c, k0_off3 c = offX (kA true c 0 0) := by decide +kernel
theorem off4 : ∀ c, k0_off4 c = offX (kA true c 0 1) := by decide +kernel
theorem off5 : ∀ c (t : Fin 4), k0_off5 c (BitVec.ofNat 32 t.val) = offX (kP false c t) := by decide +kernel
theorem off6 : ∀ c (t : Fin 4), k0_off6 c (BitVec.ofNat 32 t.val) = offP false c t := by decide +kernel
theorem off7 : ∀ c (t : Fin 4), k0_off7 c (BitVec.ofNat 32 t.val) = offP false c t := by decide +kernel
theorem off8 : ∀ c (t : Fin 4), k0_off8 c (BitVec.ofNat 32 t.val) = offX (kP true c t) := by decide +kernel
theorem off9 : ∀ c (t : Fin 4), k0_off9 c (BitVec.ofNat 32 t.val) = offP true c t := by decide +kernel
theorem off10 : ∀ c (t : Fin 4), k0_off10 c (BitVec.ofNat 32 t.val) = offP true c t := by decide +kernel
theorem off11 : ∀ c (h : Fin 2), k0_off11 c (BitVec.ofNat 32 (1 + h.val)) = offX (kA false c ⟨1 + h.val, by omega⟩ 0) := by decide +kernel
theorem off12 : ∀ c (h : Fin 2), k0_off12 c (BitVec.ofNat 32 (1 + h.val)) = offX (kA false c ⟨1 + h.val, by omega⟩ 1) := by decide +kernel
theorem off13 : ∀ c (h : Fin 2), k0_off13 c (BitVec.ofNat 32 (1 + h.val)) = offX (kA true c ⟨1 + h.val, by omega⟩ 0) := by decide +kernel
theorem off14 : ∀ c (h : Fin 2), k0_off14 c (BitVec.ofNat 32 (1 + h.val)) = offX (kA true c ⟨1 + h.val, by omega⟩ 1) := by decide +kernel
theorem off15 : ∀ c (i : Fin 4), k0_off15 c (BitVec.ofNat 32 i.val) = offX (kM c i) := by decide +kernel
theorem off16 : ∀ c, k0_off16 c = offP false c 0 := by decide +kernel
theorem off17 : ∀ c, k0_off17 c = offP true c 0 := by decide +kernel
theorem off18 : ∀ c d, k0_off18 c = offX (kA d c 3 0) := by decide +kernel
theorem off19 : ∀ c d, k0_off19 c = offX (kA d c 3 1) := by decide +kernel
theorem off20 : ∀ c, k0_off20 c = offZ c 0 := by decide +kernel
theorem off21 : ∀ c, k0_off21 c = offZ c 1 := by decide +kernel
theorem off22 : ∀ c, k0_off22 c = offP false c 3 := by decide +kernel
theorem off23 : ∀ c, k0_off23 c = offP true c 3 := by decide +kernel
theorem off24 : ∀ c, k0_off24 c = offY c := by decide +kernel

/-! ## The transfers -/

/-- A device's transfers: the first ring's (direction, hop, half of the columns), the pushes to the other group
    (direction, hop it serves), the second ring's, the last exchange of the first ring. -/
inductive X
  | a (d : Bool) (h : Fin 3) (j : Fin 2)
  | p (d : Bool) (t : Fin 4)
  | b (d : Bool) (h : Fin 3)
  | z (d : Bool) (j : Fin 2)
  deriving DecidableEq

namespace X

abbrev Sm := (Bool × Fin 3 × Fin 2) ⊕ (Bool × Fin 4) ⊕ (Bool × Fin 3) ⊕ (Bool × Fin 2)
/-- The transfers listed by kind. -/
def eqv : Sm ≃ X where
  toFun
    | .inl (d, h, j) => a d h j | .inr (.inl (d, t)) => p d t
    | .inr (.inr (.inl (d, h))) => b d h | .inr (.inr (.inr (d, j))) => z d j
  invFun
    | a d h j => .inl (d, h, j) | p d t => .inr (.inl (d, t))
    | b d h => .inr (.inr (.inl (d, h))) | z d j => .inr (.inr (.inr (d, j)))
  left_inv := by rintro (_ | _ | _ | _) <;> rfl
  right_inv := by rintro (_ | _ | _ | _) <;> rfl
instance : Fintype X := Fintype.ofEquiv Sm eqv

abbrev shp : X → Shape
  | a .. => S1024x128 | p .. => S512x768 | b .. => S512x768 | z .. => S512x128
abbrev elt : X → EltTy
  | a .. => .bf16 | p .. => .fp8e4m3 | b .. => .bf16 | z .. => .bf16

/-- The device it goes to, and the one whose twin comes here. -/
def tg : X → Dev nD → Dev nD
  | a d _ _ => dn d | p _ _ => zp | b d _ => dn d | z _ _ => zp
def frm : X → Dev nD → Dev nD
  | a d _ _ => up d | p _ _ => zp | b d _ => up d | z _ _ => zp
theorem tg_frm (x : X) (c) : x.tg (x.frm c) = c := by cases x <;> first | exact dn_up _ _ | exact zp_zp _
theorem frm_tg (x : X) (c) : x.frm (x.tg c) = c := by cases x <;> first | exact up_dn _ _ | exact zp_zp _

/-- Its semaphore counting that the source is read, and the one counting what lands. -/
def sS : X → DmaSem sig
  | a d h j => at42 (aSend d) h.castSucc j | p d t => at42 cc0_scratch19 t (bit d)
  | b d h => at4 (bSend d) h.castSucc | z d j => at2 (zSend d) j
def rS : X → DmaSem sig
  | a d h j => at42 (aRecv d) h.succ j | p d t => at42 cc0_scratch20 t (bit d)
  | b d h => at4 (bRecv d) h.succ | z d j => at2 (zRecv d) j

/-- The window it is sent from and the one it lands in. -/
abbrev src : (x : X) → Dev nD → Memref sig .tc .vmem x.shp x.elt
  | a d h j, _ => vA d h.castSucc j
  | p d t, c => vPs (offP d c t) (inbP d c t)
  | b d h, _ => vB d h.castSucc
  | z d j, c => vZs d (offZ c j) (inbZs c j)
abbrev dst : (x : X) → Dev nD → Memref sig .tc .vmem x.shp x.elt
  | a d h j, _ => vA d h.succ j
  | p d t, c => vPd (offP d c t) (inbP d c t)
  | b d h, _ => vB d h.succ
  | z d j, _ => vZ d j

theorem vPd_congr {o o' : Fin 2 → Nat} (h : o = o') (ho ho') : vPd o ho = vPd o' ho' := by subst h; rfl
theorem vPs_congr {o o' : Fin 2 → Nat} (h : o = o') (ho ho') : vPs o ho = vPs o' ho' := by subst h; rfl
theorem dst_tg (x : X) (c) : x.dst (x.tg c) = x.dst c := by
  cases x <;> first
    | rfl
    | exact vPd_congr (by show offP _ (zp c) _ = _; unfold offP; rw [ci_zp]) _ _
theorem dst_frm (x : X) (c) : x.dst (x.frm c) = x.dst c := by
  cases x <;> first
    | rfl
    | exact vPd_congr (by show offP _ (zp c) _ = _; unfold offP; rw [ci_zp]) _ _

/-- What it counts. -/
def N : X → Nat := fun x => (x.dst 0).view.dmaCredit
theorem numel_pos : ∀ x : X, 0 < x.shp.numel
  | a .. => Shape.numel_pos (s := S1024x128) (by decide)
  | p .. => Shape.numel_pos (s := S512x768) (by decide)
  | b .. => Shape.numel_pos (s := S512x768) (by decide)
  | z .. => Shape.numel_pos (s := S512x128) (by decide)
theorem N_pos (x : X) : 0 < x.N := View.dmaCredit_pos _ x.numel_pos
theorem dst_credit (x : X) (c) : (x.dst c).view.dmaCredit = x.N := by cases x <;> rfl
theorem src_credit (x : X) (c) : (x.src c).view.dmaCredit = x.N := by cases x <;> rfl

end X

/-! ## The operands -/

/-- What the devices' operands hold. -/
structure Ins (F : FTy → Type) where
  x : Dev nD → S4096x512.Idx → Elt F .fp8e4m3
  w : Dev nD → S512x2048.Idx → Elt F .fp8e5m2
  sx : Dev nD → S1.Idx → Elt F .f32
  sw : Dev nD → S1.Idx → Elt F .f32

variable (ι : Ins F)

def xB (c : Dev nD) (k : Fin 8) : Vec F S512x512 .fp8e4m3 := fun j => ι.x c ((rX (offX k) (inbX k)).emb j)
def wA (c : Dev nD) (d : Bool) : Vec F S512x256 .fp8e5m2 := fun j => ι.w c ((rW d).emb j)
def wV (c : Dev nD) (d : Bool) : Vec F S512x768 .fp8e5m2 := fun j => ι.w c ((rV d).emb j)
def wU (c : Dev nD) : Vec F S512x1536 .fp8e5m2 := fun j => ι.w c (rU.emb j)

/-! ## The slabs -/

def ext16 (x : F .bf16) : F .f32 := FloatOps.extf .f32 bitsLt_bf16_f32 x
def ext8 (x : F .fp8e4m3) : F .f32 := FloatOps.extf .f32 bitsLt_fp8e4m3_f32 x
def cut16 (x : F .f32) : F .bf16 := FloatOps.truncf .bf16 bitsLt_bf16_f32 x

/-- Row `i` of a block of rows: its block and its row in the block. -/
def lo {n : Nat} (i : Fin n) : Fin 512 := ⟨i.val % 512, Nat.mod_lt _ (by decide)⟩
def hf (i : Fin 1024) : Fin 2 := ⟨i.val / 512, by omega⟩
def qf (i : Fin 2048) : Fin 4 := ⟨i.val / 512, by omega⟩
/-- Column `l` of the second ring's: its direction and its place. -/
def sd (l : Fin 1536) : Bool := decide (768 ≤ l.val)
def sl (l : Fin 1536) : Fin 768 := ⟨l.val % 768, Nat.mod_lt _ (by decide)⟩

/-- A device's product for slab row `i`, column `l`, at hop `h` of the first ring. -/
def pA (d : Bool) (c : Dev nD) (h : Fin 4) (i : Fin 1024) (l : Fin 256) : F .f32 :=
  mmA (xB ι c (kA d c h (hf i))) (wA ι c d) (ix2 (lo i) l)

/-- What a device sends at hop `h` of the first ring. -/
def SA (d : Bool) : Nat → Dev nD → Fin 1024 → Fin 256 → F .bf16
  | 0, c, i, l => cut16 (pA ι d c 0 i l)
  | h + 1, c, i, l => cut16 (FloatOps.addf (ext16 (SA d h (up d c) i l)) (pA ι d c (Fin.ofNat 4 (h + 1)) i l))

/-- What a device pushes to the other group, and what it keeps for its own. -/
def snd (c : Dev nD) (i : Fin 2048) (l : Fin 1536) : F .fp8e4m3 :=
  mmV (xB ι c ⟨4 * ((c.val / 4 + 1) % 2) + (qf i).val, by omega⟩) (wV ι c (sd l)) (ix2 (lo i) (sl l))
def mine (c : Dev nD) (i : Fin 2048) (l : Fin 1536) : F .bf16 :=
  mmU (xB ι c (kM c (qf i))) (wU ι c) (ix2 (lo i) l)

set_option backward.proofsInPublic true in
/-- A device's own part for the chunk of hop `h` of the second ring. -/
def bv (d : Bool) (c : Dev nD) (h : Fin 4) (i : Fin 512) (l : Fin 768) : F .f32 :=
  FloatOps.addf (ext16 (mine ι c ⟨512 * (ci d c h).val + i.val, by omega⟩ ⟨768 * (bit d).val + l.val, by omega⟩))
    (ext8 (snd ι (zp c) ⟨512 * (ci d c h).val + i.val, by omega⟩ ⟨768 * (bit d).val + l.val, by omega⟩))

/-- What a device sends at hop `h` of the second ring. -/
def SB (d : Bool) : Nat → Dev nD → Fin 512 → Fin 768 → F .bf16
  | 0, c, i, l => cut16 (bv ι d c 0 i l)
  | h + 1, c, i, l => cut16 (FloatOps.addf (ext16 (SB d h (up d c) i l)) (bv ι d c (Fin.ofNat 4 (h + 1)) i l))

/-- Scaled and cut below at zero. -/
def relu (s v : F .f32) : F .f32 := FloatOps.maximumf (FloatOps.mulf v s) (Scalar.ofBits .f32 0x00000000#32)

def scl (c : Dev nD) : F .f32 :=
  k0_pay73 (ι.sx c ((Rect.unit (s := S1) ![0] S1.size inb_S1_S1_0).point numel1_S1)) (ι.sw c ((Rect.unit (s := S1) ![0] S1.size inb_S1_S1_0).point numel1_S1))

/-- The result's columns from the first ring, and from the second. -/
def outA (d : Bool) (c : Dev nD) (i : Fin 512) (l : Fin 256) : F .f32 :=
  relu (scl ι c) (FloatOps.addf (ext16 (SA ι d 3 c ⟨myO c + i.val, by have := myO_le c; omega⟩ l)) (ext16 (SA ι d 3 (zp c) ⟨myO c + i.val, by have := myO_le c; omega⟩ l)))
def outB (d : Bool) (c : Dev nD) (i : Fin 512) (l : Fin 768) : F .f32 :=
  relu (scl ι c) (FloatOps.addf (ext16 (SB ι d 2 (up d c) i l)) (bv ι d c 3 i l))

def out (c : Dev nD) (i : S512x2048.Idx) : F .f32 :=
  if h : (i 1).val < 512 then outA ι (decide (256 ≤ (i 1).val)) c (i 0) ⟨(i 1).val % 256, Nat.mod_lt _ (by decide)⟩
  else outB ι (decide (1280 ≤ (i 1).val)) c (i 0) ⟨((i 1).val - 512) % 768, Nat.mod_lt _ (by decide)⟩

/-- What transfer `x` of device `c` carries. -/
def cont : (x : X) → Dev nD → x.shp.Idx → Elt F x.elt
  | .a d h j, c => fun k => SA ι d h.val c (k 0) ⟨128 * j.val + (k 1).val, by have : (k 1).val < 128 := (k 1).isLt; omega⟩
  | .p d t, c => fun k => snd ι c ⟨512 * (ci d c t).val + (k 0).val, by have : (k 0).val < 512 := (k 0).isLt; omega⟩
      ⟨768 * (bit d).val + (k 1).val, by have : (k 1).val < 768 := (k 1).isLt; have := (bit d).isLt; omega⟩
  | .b d h, c => fun k => SB ι d h.val c (k 0) (k 1)
  | .z d j, c => fun k => SA ι d 3 c ⟨paO c + (k 0).val, by have : (k 0).val < 512 := (k 0).isLt; have := paO_le c; omega⟩
      ⟨128 * j.val + (k 1).val, by have : (k 1).val < 128 := (k 1).isLt; omega⟩

end Cert.KernelIdeal.RS
end
-- ==== Proof.KernelIdeal.Sched.lean ====
/-
The protocol: the cells of a device (its barrier semaphore, a send and a receive semaphore of each transfer), what each
hands over, the order of a device's sends and waits, what it owes, and the levels of the cells.
-/
module

public import proofs.«01_k».proof.Proof.KernelIdeal.Contents

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The order -/

/-- A device's sends (`false`) and waits (`true`), in the program's order. -/
def evs : List (Bool × X) :=
  [(false, .a false 0 0), (false, .a true 0 0), (false, .a false 0 1), (false, .a true 0 1),
   (false, .p false 0), (false, .p true 0), (false, .p false 1), (false, .p true 1),
   (true, .a false 0 0), (false, .a false 1 0), (true, .a true 0 0), (false, .a true 1 0),
   (true, .a false 0 1), (false, .a false 1 1), (true, .a true 0 1), (false, .a true 1 1),
   (false, .p false 2), (false, .p true 2),
   (true, .a false 1 0), (false, .a false 2 0), (true, .a true 1 0), (false, .a true 2 0),
   (true, .a false 1 1), (false, .a false 2 1), (true, .a true 1 1), (false, .a true 2 1),
   (false, .p false 3), (false, .p true 3),
   (true, .p false 0), (false, .b false 0), (true, .p true 0), (false, .b true 0),
   (true, .a false 2 0), (false, .z false 0), (true, .a true 2 0), (false, .z true 0),
   (true, .a false 2 1), (false, .z false 1), (true, .a true 2 1), (false, .z true 1),
   (true, .p false 1), (true, .b false 0), (false, .b false 1), (true, .p true 1), (true, .b true 0), (false, .b true 1),
   (true, .p false 2), (true, .b false 1), (false, .b false 2), (true, .p true 2), (true, .b true 1), (false, .b true 2),
   (true, .p false 3), (true, .p true 3), (true, .b false 2), (true, .b true 2),
   (true, .z false 0), (true, .z true 0), (true, .z false 1), (true, .z true 1)]

/-- When a transfer is sent, and when it is waited for. -/
def sp (x : X) : Nat := evs.idxOf (false, x)
def wp' (x : X) : Nat := evs.idxOf (true, x)

theorem sp_lt : ∀ x, sp x < wp' x := by decide +kernel
theorem wp_lt : ∀ x, wp' x < 60 := by decide +kernel
theorem sp_inj : ∀ x y, sp x = sp y → x = y := by decide +kernel
theorem wp_inj : ∀ x y, wp' x = wp' y → x = y := by decide +kernel
theorem sp_ne_wp : ∀ x y, sp x ≠ wp' y := by decide +kernel

/-! ## The cells -/

/-- A device's cells: its barrier's, and of each transfer the one counting reads (`false`) and the one counting what lands. -/
abbrev Cl : Type := Option (Bool × X)
def csem : Cl → SemLoc sig
  | none => .reg barS
  | some (false, x) => .dma x.sS
  | some (true, x) => .dma x.rS
theorem csem_injective : Function.Injective csem := by decide +kernel

abbrev kcell (ck : Dev nD × Cl) : GSem nD τ sig := ((ck.1 : Thread nD τ), csem ck.2)
abbrev barCell (c : Dev nD) : GSem nD τ sig := ((c : Thread nD τ), .reg barS)
abbrev sndCell (x : X) (c : Dev nD) : GSem nD τ sig := ((c : Thread nD τ), .dma x.sS)
abbrev rcvCell (x : X) (c : Dev nD) : GSem nD τ sig := ((c : Thread nD τ), .dma x.rS)

open Classical in
/-- Which of the cells a semaphore is. -/
def kind (s : SemLoc sig) : Option Cl := if h : ∃ k, csem k = s then some h.choose else none
theorem kind_csem (k : Cl) : kind (csem k) = some k := by
  have h : ∃ k', csem k' = csem k := ⟨k, rfl⟩
  unfold kind
  rw [dif_pos h, csem_injective h.choose_spec]
theorem kind_bar : kind (.reg barS) = some none := kind_csem none
theorem kind_snd (x : X) : kind (.dma x.sS) = some (some (false, x)) := kind_csem (some (false, x))
theorem kind_rcv (x : X) : kind (.dma x.rS) = some (some (true, x)) := kind_csem (some (true, x))

/-! ## What is handed over -/

/-- The neighbour a transfer goes to, numbered: the next of the group, the one before, the one in the other group. -/
def cls : X → Fin 3
  | .a false .. => 0 | .a true .. => 1 | .b false .. => 0 | .b true .. => 1 | .p .. => 2 | .z .. => 2
def nb : Fin 3 → Dev nD → Dev nD | 0 => rt | 1 => lf | 2 => zp
/-- The one whose such neighbour a device is. -/
def bn : Fin 3 → Dev nD → Dev nD | 0 => lf | 1 => rt | 2 => zp
theorem tg_cls (x : X) (c) : x.tg c = nb (cls x) c := by rcases x with ⟨_ | _⟩ | _ | ⟨_ | _⟩ | _ <;> rfl
theorem nb_bn (d : Fin 3) (c) : nb d (bn d c) = c := by
  fin_cases d
  · exact rt_lf c
  · exact lf_rt c
  · exact zp_zp c
theorem bn_nb (d : Fin 3) (c) : bn d (nb d c) = c := by
  fin_cases d
  · exact lf_rt c
  · exact rt_lf c
  · exact zp_zp c

variable (ι : Ins F)

/-- A transfer's landing window on the device it goes to, at some contents. -/
def land (x : X) (c : Dev nD) : sProp (MM F) := iprop(∃ g, Own (x.tg c) (x.dst c) Finset.univ g)
def barPay (c : Dev nD) (d : Fin 3) : sProp (MM F) := bigSep (Finset.univ.filter fun x => cls x = d) fun x => land (F := F) x c
def payS (x : X) (c : Dev nD) : sProp (MM F) := Own c (x.src c) Finset.univ (cont ι x c)
def payR (x : X) (c : Dev nD) : sProp (MM F) := Own c (x.dst c) Finset.univ (cont ι x (x.frm c))

theorem payR_tg (x : X) (c) : payR ι x (x.tg c) = Own (x.tg c) (x.dst c) Finset.univ (cont ι x c) := by
  unfold payR; rw [X.dst_tg, X.frm_tg]

instance land_storable (x : X) (c : Dev nD) : BI.Storable (upEmb : UEmb _ (MM F)) (land (F := F) x c) := by unfold land; infer_instance
instance barPay_storable (c : Dev nD) (d : Fin 3) : BI.Storable (upEmb : UEmb _ (MM F)) (barPay (F := F) c d) := by unfold barPay; infer_instance
instance payS_storable (x : X) (c : Dev nD) : BI.Storable (upEmb : UEmb _ (MM F)) (payS ι x c) := by unfold payS; infer_instance
instance payR_storable (x : X) (c : Dev nD) : BI.Storable (upEmb : UEmb _ (MM F)) (payR ι x c) := by unfold payR; infer_instance

def dutiesOf : Option Cl → Finset (Fin 3)
  | none => ∅ | some none => Finset.univ | some (some _) => {0}
def amountOf' : Option Cl → Nat
  | none => 1 | some none => 1 | some (some (_, x)) => x.N
def payOf (c : Dev nD) (d : Fin 3) : Option Cl → sProp (MM F)
  | none => iprop(emp) | some none => barPay (F := F) c d | some (some (false, x)) => payS ι x c | some (some (true, x)) => payR ι x c

/-- One round: a barrier cell has a duty of one unit from each neighbour, the other cells one duty of the transfer's count. -/
def Rd : Rounds.Schedule (GSem nD τ sig) (Fin 3) (MM F) where
  duties g r := if r = 0 ∧ g.1.2 = .tc then dutiesOf (kind g.2) else ∅
  unitless _ := False
  amount g _ _ := amountOf' (kind g.2)
  payload g _ d := payOf ι g.1.1 d (kind g.2)
  amount_pos g _ _ _ := by
    show 0 < amountOf' (kind g.2)
    rcases kind g.2 with _ | _ | ⟨_, x⟩
    exacts [Nat.one_pos, Nat.one_pos, x.N_pos]

instance rd_storable (g : GSem nD τ sig) (r : ℕ) (d : Fin 3) : BI.Storable (upEmb : UEmb _ (MM F)) ((Rd ι).payload g r d) := by
  show BI.Storable upEmb (payOf ι g.1.1 d (kind g.2))
  rcases kind g.2 with _ | _ | ⟨_ | _, x⟩ <;> unfold payOf <;> infer_instance

section
variable (c : Dev nD) (x : X) (d : Fin 3)

theorem duties_bar : (Rd ι).duties (barCell c) 0 = Finset.univ := by
  show (if (0 : ℕ) = 0 ∧ (c : Thread nD τ).2 = .tc then dutiesOf (kind (.reg barS)) else ∅) = _; rw [if_pos ⟨rfl, rfl⟩, kind_bar]; rfl
theorem duties_snd : (Rd ι).duties (sndCell x c) 0 = {0} := by
  show (if (0 : ℕ) = 0 ∧ (c : Thread nD τ).2 = .tc then dutiesOf (kind (.dma x.sS)) else ∅) = _; rw [if_pos ⟨rfl, rfl⟩, kind_snd]; rfl
theorem duties_rcv : (Rd ι).duties (rcvCell x c) 0 = {0} := by
  show (if (0 : ℕ) = 0 ∧ (c : Thread nD τ).2 = .tc then dutiesOf (kind (.dma x.rS)) else ∅) = _; rw [if_pos ⟨rfl, rfl⟩, kind_rcv]; rfl
theorem duties_later (g : GSem nD τ sig) : ∀ r, 1 ≤ r → (Rd ι).duties g r = ∅ := fun r hr => if_neg fun h => by omega
theorem amount_bar : (Rd ι).amount (barCell c) 0 d = 1 := by show amountOf' (kind (.reg barS)) = _; rw [kind_bar]; rfl
theorem amount_snd : (Rd ι).amount (sndCell x c) 0 d = x.N := by show amountOf' (kind (.dma x.sS)) = _; rw [kind_snd]; rfl
theorem amount_rcv : (Rd ι).amount (rcvCell x c) 0 d = x.N := by show amountOf' (kind (.dma x.rS)) = _; rw [kind_rcv]; rfl
theorem expect_bar : (Rd ι).expect (barCell c) 0 = 3 := by
  unfold Schedule.expect Schedule.amountOf
  rw [duties_bar, Finset.sum_congr rfl fun d _ => amount_bar ι c d, Finset.sum_const]; rfl
theorem expect_snd : (Rd ι).expect (sndCell x c) 0 = x.N := by
  unfold Schedule.expect Schedule.amountOf; rw [duties_snd, Finset.sum_singleton, amount_snd]
theorem expect_rcv : (Rd ι).expect (rcvCell x c) 0 = x.N := by
  unfold Schedule.expect Schedule.amountOf; rw [duties_rcv, Finset.sum_singleton, amount_rcv]
theorem payload_bar : (Rd ι).payload (barCell c) 0 d = barPay c d := by show payOf ι c d (kind (.reg barS)) = _; rw [kind_bar]; rfl
theorem payload_snd : (Rd ι).payload (sndCell x c) 0 d = payS ι x c := by show payOf ι c d (kind (.dma x.sS)) = _; rw [kind_snd]; rfl
theorem payload_rcv : (Rd ι).payload (rcvCell x c) 0 d = payR ι x c := by show payOf ι c d (kind (.dma x.rS)) = _; rw [kind_rcv]; rfl
theorem rest_snd : bigSep ((Rd ι).duties (sndCell x c) 0 \ ∅) (fun d => (Rd ι).payload (sndCell x c) 0 d) = payS ι x c := by
  rw [Finset.sdiff_empty, duties_snd, bigSep_singleton, payload_snd]
theorem rest_rcv : bigSep ((Rd ι).duties (rcvCell x c) 0 \ ∅) (fun d => (Rd ι).payload (rcvCell x c) 0 d) = payR ι x c := by
  rw [Finset.sdiff_empty, duties_rcv, bigSep_singleton, payload_rcv]
/-- What a device has of its barrier's round: every landing window of its transfers. -/
theorem rest_bar : bigSep ((Rd ι).duties (barCell c) 0 \ ∅) (fun d => (Rd ι).payload (barCell c) 0 d) = bigSep Finset.univ fun x => land (F := F) x c := by
  rw [Finset.sdiff_empty, duties_bar, bigSep_congr (fun d _ => payload_bar ι c d)]
  unfold barPay
  rw [bigSep_fiberwise Finset.univ cls fun x => land (F := F) x c, show Finset.univ.image cls = Finset.univ by decide]
end

/-! ## What is owed, and the levels -/

/-- What a device owes once `n` of its events are done: the counts of the transfers not sent yet. -/
def owed (n : Nat) (c : Dev nD) : CellTallies nD τ sig Unit :=
  ∑ y ∈ Finset.univ.filter (fun y => n ≤ sp y), tallyAt (rcvCell y (y.tg c)) () y.N
def bars (c : Dev nD) (d : Fin 3) : CellTallies nD τ sig Unit := tallyAt (barCell (bn d c)) () 1
/-- At launch: that, and one unit to each neighbour's barrier. -/
def O₀ (c : Dev nD) : CellTallies nD τ sig Unit := owed 0 c + bars c 2 + bars c 1 + bars c 0

theorem owed_send (x : X) (c : Dev nD) : owed (sp x) c = owed (sp x + 1) c + tallyAt (rcvCell x (x.tg c)) () x.N := by
  unfold owed
  have h : Finset.univ.filter (fun y => sp x ≤ sp y) = insert x (Finset.univ.filter fun y => sp x + 1 ≤ sp y) := by
    ext y
    simp only [Finset.mem_filter, Finset.mem_univ, true_and, Finset.mem_insert]
    constructor
    · intro hy
      by_cases e : sp x = sp y
      · exact Or.inl (sp_inj _ _ e).symm
      · exact Or.inr (by omega)
    · rintro (rfl | hy)
      · exact Nat.le_refl _
      · omega
  rw [h, Finset.sum_insert (by simp), add_comm]
theorem owed_wait (x : X) (c : Dev nD) : owed (wp' x) c = owed (wp' x + 1) c := by
  unfold owed
  refine Finset.sum_congr (Finset.filter_congr fun y _ => ?_) fun _ _ => rfl
  have := sp_ne_wp y x
  omega
theorem owed_end (c : Dev nD) : owed 60 c = 0 := by
  unfold owed
  rw [Finset.filter_false_of_mem fun y _ => by have := sp_lt y; have := wp_lt y; omega, Finset.sum_empty]

def L (g : GSem nD τ sig) : Finset Unit := if g.1.2 = .tc then {()} else ∅
def lvOf : Option Cl → Nat
  | some none => 1 | some (some (true, x)) => sp x + 2 | _ => 0
/-- The barrier at 1, a receive cell by when its transfer is sent, the rest at 0. -/
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := by show lvOf (kind (.reg barS)) = _; rw [kind_bar]; rfl
theorem lv_snd (x : X) (c : Dev nD) (u) : lv (sndCell x c) u = 0 := by show lvOf (kind (.dma x.sS)) = _; rw [kind_snd]; rfl
theorem lv_rcv (x : X) (c : Dev nD) (u) : lv (rcvCell x c) u = sp x + 2 := by show lvOf (kind (.dma x.rS)) = _; rw [kind_rcv]; rfl

theorem owed_pos {n : Nat} {c : Dev nD} {g : GSem nD τ sig} {u : Unit} (h : 0 < owed n c g u) :
    ∃ y, n ≤ sp y ∧ g = rcvCell y (y.tg c) := by
  unfold owed at h
  rw [Finset.sum_apply, Finsupp.finset_sum_apply] at h
  obtain ⟨y, hy, hp⟩ := Finset.exists_ne_zero_of_sum_ne_zero (Nat.pos_iff_ne_zero.mp h)
  refine ⟨y, (Finset.mem_filter.mp hy).2, ?_⟩
  rw [tallyAt_apply] at hp
  by_contra hn
  exact hp (if_neg fun h' => hn h'.1)
theorem O₀_pos {c : Dev nD} {g : GSem nD τ sig} {u : Unit} (h : 0 < O₀ c g u) :
    (∃ y, g = rcvCell y (y.tg c)) ∨ ∃ d, g = barCell (bn d c) := by
  unfold O₀ bars at h
  by_contra hn
  rw [not_or, not_exists, not_exists] at hn
  have h0 : owed 0 c g u = 0 := by
    by_contra h0
    obtain ⟨y, -, hy⟩ := owed_pos (Nat.pos_of_ne_zero h0)
    exact hn.1 y hy
  rw [Pi.add_apply, Finsupp.add_apply, Pi.add_apply, Finsupp.add_apply, Pi.add_apply, Finsupp.add_apply, tallyAt_apply, tallyAt_apply, tallyAt_apply,
    if_neg (fun h' => hn.2 _ h'.1), if_neg (fun h' => hn.2 _ h'.1), if_neg (fun h' => hn.2 _ h'.1), h0] at h
  exact Nat.lt_irrefl 0 h

theorem L_mem {g : GSem nD τ sig} {u : Unit} (h : g.1.2 = .tc) : u ∈ L g := by unfold L; rw [if_pos h]; exact Finset.mem_singleton_self _

/-- A device may wait on a cell below all it owes. -/
theorem mayWait (c : Dev nD) (sm : SemLoc sig) (n : Nat) (h : ∀ y, n ≤ sp y → lv ((c : Thread nD τ), sm) () < sp y + 2) :
    (levAts L lv : sProp (MM F)) ⊢ MayWait (c : Thread nD τ) sm () (owed n c) :=
  MayOwe.of_cut (L := L) (lev := lv) (lv ((c : Thread nD τ), sm) ()) (fun p hp => by rw [Finset.mem_singleton.mp hp]; exact L_mem rfl)
    (fun g u hg => by obtain ⟨y, -, rfl⟩ := owed_pos hg; exact L_mem rfl)
    (fun p hp => by rw [Finset.mem_singleton.mp hp])
    (fun g u hg => by obtain ⟨y, hy, rfl⟩ := owed_pos hg; rw [lv_rcv]; exact h y hy)

theorem mayWait_bar (c : Dev nD) : (levAts L lv : sProp (MM F)) ⊢ MayWait (c : Thread nD τ) (.reg barS) () (owed 0 c) :=
  mayWait c _ 0 fun y _ => by rw [lv_bar]; omega
theorem mayWait_snd (x : X) (c : Dev nD) (n) : (levAts L lv : sProp (MM F)) ⊢ MayWait (c : Thread nD τ) (.dma x.sS) () (owed n c) :=
  mayWait c _ n fun y _ => by rw [lv_snd]; omega
theorem mayWait_rcv (x : X) (c : Dev nD) : (levAts L lv : sProp (MM F)) ⊢ MayWait (c : Thread nD τ) (.dma x.rS) () (owed (wp' x) c) :=
  mayWait c _ _ fun y hy => by rw [lv_rcv]; have := sp_lt x; omega

/-- On a cell of none of the kinds a device may wait at launch and at the end. -/
theorem mayWait_stage (c : Dev nD) (q : DmaSem sig) (hq : kind (.dma q) = none) (O : CellTallies nD τ sig Unit) (hO : O = O₀ c ∨ O = 0) :
    (levAts L lv : sProp (MM F)) ⊢ MayWait (c : Thread nD τ) (.dma q) () O := by
  rcases hO with rfl | rfl
  · refine MayOwe.of_cut (L := L) (lev := lv) 0 (fun p hp => by rw [Finset.mem_singleton.mp hp]; exact L_mem rfl)
      (fun g u hg => by rcases O₀_pos hg with ⟨y, rfl⟩ | ⟨d, rfl⟩ <;> exact L_mem rfl)
      (fun p hp => by rw [Finset.mem_singleton.mp hp]; show lvOf (kind (.dma q)) ≤ 0; rw [hq]; exact Nat.le_refl 0)
      (fun g u hg => by
        rcases O₀_pos hg with ⟨y, rfl⟩ | ⟨d, rfl⟩
        · rw [lv_rcv]; omega
        · rw [lv_bar]; omega)
  · rw [MayWait_zero]; iintro -; iempintro

end Cert.KernelIdeal.RS
end
-- ==== Proof.KernelIdeal.Steps.lean ====
/-
A device's protocol state between two of its events, and the rules for its events: a send, a wait, the barrier.
-/
module

public import proofs.«01_k».proof.Proof.KernelIdeal.Sched

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (ι : Ins F) (K : Dev nD × Cl → ℕ)

/-! ## The records and the phases -/

/-- What every device knows: the cells' invariants, that they are open, their levels. -/
def Rec : sProp (MM F) :=
  iprop((bigSep Finset.univ fun ck => cellInv ER (Rd ι) (K ck) (kcell ck)) ∗ (bigSep Finset.univ fun ck => reached ER (kcell ck) 0) ∗ levAts L lv)
instance rec_persistent : BI.Persistent (Rec ι K) := by unfold Rec; infer_instance

theorem inv_at (ck : Dev nD × Cl) :
    (bigSep Finset.univ fun ck => (cellInv ER (Rd ι) (K ck) (kcell ck) : sProp (MM F))) ⊢ cellInv ER (Rd ι) (K ck) (kcell ck) :=
  bigSep_elim (Finset.mem_univ ck)
theorem reached_at (ck : Dev nD × Cl) :
    (bigSep Finset.univ fun ck => (reached ER (kcell ck) 0 : sProp (MM F))) ⊢ reached ER (kcell ck) 0 :=
  bigSep_elim (Finset.mem_univ ck)
theorem rec_inv (ck : Dev nD × Cl) : Rec ι K ⊢ cellInv ER (Rd ι) (K ck) (kcell ck) := by
  unfold Rec
  iintro ⟨H, -, -⟩
  iapply (inv_at ι K ck); iexact H
theorem rec_reached (ck : Dev nD × Cl) : Rec ι K ⊢ reached ER (kcell ck) 0 := by
  unfold Rec
  iintro ⟨-, H, -⟩
  iapply (reached_at ck); iexact H
theorem rec_lev : Rec ι K ⊢ levAts L lv := by
  unfold Rec
  iintro ⟨-, -, H⟩
  iexact H

/-- A transfer not sent, under way, and over. -/
def ready (x : X) (c : Dev nD) : sProp (MM F) :=
  iprop(dutyTok ER (sndCell x c) 0 0 ∗ dutyTok ER (rcvCell x (x.tg c)) 0 0 ∗ land x c
    ∗ atPos ER (sndCell x c) 0 ∅ 0 ∗ atPos ER (rcvCell x c) 0 ∅ 0 ∗ cred (tallyAt (rcvCell x c) () x.N))
def flight (x : X) (c : Dev nD) : sProp (MM F) :=
  iprop(cred (tallyAt (sndCell x c) () x.N) ∗ cred (tallyAt (rcvCell x c) () x.N)
    ∗ atPos ER (sndCell x c) 0 ∅ 0 ∗ atPos ER (rcvCell x c) 0 ∅ 0)
def over (x : X) (c : Dev nD) : sProp (MM F) :=
  iprop(semVal (sndCell x c) 0 ∗ semVal (rcvCell x c) 0 ∗ payS ι x c)

def ph (n : Nat) (x : X) (c : Dev nD) : sProp (MM F) :=
  if n ≤ sp x then ready x c else if n ≤ wp' x then flight x c else over ι x c

/-- Device `c` after `n` of its events. -/
def St (n : Nat) (c : Dev nD) : sProp (MM F) :=
  iprop(Rec ι K ∗ (bigSep Finset.univ fun x => ph ι n x c) ∗ ∃ W, owes (c : Thread nD τ) (owed n c) W)

theorem ph_split (n : Nat) (x : X) (c : Dev nD) :
    (bigSep Finset.univ fun y => ph ι n y c) = iprop(ph ι n x c ∗ bigSep (Finset.univ.erase x) fun y => ph ι n y c) :=
  bigSep_univ_at _ x

theorem ph_send (x : X) (c : Dev nD) :
    (bigSep (Finset.univ.erase x) fun y => ph ι (sp x) y c) = bigSep (Finset.univ.erase x) fun y => ph ι (sp x + 1) y c :=
  bigSep_congr fun y hy => by
    have h1 : sp x ≠ sp y := fun h => Finset.ne_of_mem_erase hy (sp_inj _ _ h).symm
    have h2 := sp_ne_wp x y
    unfold ph
    rw [if_congr (show sp x ≤ sp y ↔ sp x + 1 ≤ sp y by omega) rfl (if_congr (show sp x ≤ wp' y ↔ sp x + 1 ≤ wp' y by omega) rfl rfl)]
theorem ph_wait (x : X) (c : Dev nD) :
    (bigSep (Finset.univ.erase x) fun y => ph ι (wp' x) y c) = bigSep (Finset.univ.erase x) fun y => ph ι (wp' x + 1) y c :=
  bigSep_congr fun y hy => by
    have h1 : wp' x ≠ wp' y := fun h => Finset.ne_of_mem_erase hy (wp_inj _ _ h).symm
    have h2 := sp_ne_wp y x
    unfold ph
    rw [if_congr (show wp' x ≤ sp y ↔ wp' x + 1 ≤ sp y by omega) rfl (if_congr (show wp' x ≤ wp' y ↔ wp' x + 1 ≤ wp' y by omega) rfl rfl)]

theorem ph_ready (x : X) (c : Dev nD) : ph ι (sp x) x c = ready x c := if_pos le_rfl
theorem ph_sent (x : X) (c : Dev nD) : ph ι (sp x + 1) x c = flight x c := by
  have := sp_lt x
  unfold ph; rw [if_neg (by omega), if_pos (by omega)]
theorem ph_flight (x : X) (c : Dev nD) : ph ι (wp' x) x c = flight x c := by
  have := sp_lt x
  unfold ph; rw [if_neg (by omega), if_pos le_rfl]
theorem ph_over (x : X) (c : Dev nD) : ph ι (wp' x + 1) x c = over ι x c := by
  have := sp_lt x
  unfold ph; rw [if_neg (by omega), if_neg (by omega)]

/-! ## The events -/

section
variable {α : Type} {Q : α → sProp (MM F)} {k : PUnit → KP F α} (c : Dev nD) (x : X)

theorem read_rep' {s : Shape} {e : EltTy} {sp : Space} (m : Memref sig .tc sp s e) (g : s.Idx → Elt F e) : m.view.read (Elt F) (m.view.rep g) = g := by
  funext i
  rw [View.read_apply, View.rep_emb, cast_cast, cast_eq]

theorem own_univ {s : Shape} {e : EltTy} {sp : Space} (c : Dev nD) (m : Memref sig .tc sp s e) (g : s.Idx → Elt F e) :
    Own c m Finset.univ g = (m.view.loc (c : Thread nD τ) ↦[m.view.set]{fullShare} m.view.rep g : sProp (MM F)) := by
  unfold Own; rw [View.setOn_univ]

theorem own_written {s : Shape} {e : EltTy} (c : Dev nD) (m : Memref sig .tc .vmem s e) (f : Buf (Elt F) (m.view.loc (c : Thread nD τ))) (g : s.Idx → Elt F e) :
    (m.view.loc (c : Thread nD τ) ↦[m.view.set]{fullShare} m.view.write (Elt F) f g Finset.univ : sProp (MM F)) = Own c m Finset.univ g := by
  have h := own_of (F := F) (I := Finset.univ) c (m := m) (m.view.write (Elt F) f g Finset.univ)
  rw [View.setOn_univ, View.read_write_univ] at h
  exact h

theorem send_core {hsc : (x.dst c).view.ref.isScScratch = false} {hs : (x.src c).view.WordExact} {ht : (x.dst c).view.WordExact}
    {hsem : DmaTarget.Typed .vmem (.dma x.rS) (.remote (Dev.tc (x.tg c) : Thread nD τ) (x.dst c) (.dma x.sS) hsc)}
    (g : x.shp.Idx → Elt F x.elt) (O : CellTallies nD τ sig Unit) (W : Waits sig Unit) :
    iprop(cellInv ER (Rd ι) (K (c, some (false, x))) (sndCell x c) ∗ cellInv ER (Rd ι) (K (x.tg c, some (true, x))) (rcvCell x (x.tg c))
        ∗ Own c (x.src c) Finset.univ (cont ι x c) ∗ Own (x.tg c) (x.dst c) Finset.univ g
        ∗ owes (c : Thread nD τ) (O + tallyAt (rcvCell x (x.tg c)) () x.N) W
        ∗ dutyTok ER (sndCell x c) 0 0 ∗ reached ER (sndCell x c) 0
        ∗ dutyTok ER (rcvCell x (x.tg c)) 0 0 ∗ reached ER (rcvCell x (x.tg c)) 0)
      ⊢ iprop(((cred (tallyAt (sndCell x c) () x.N) ∗ owes (c : Thread nD τ) O W) -∗ WP c (k ⟨⟩) Q)
          -∗ WP c (.op (.enqueueDma (x.src c) (.remote (Dev.tc (x.tg c) : Thread nD τ) (x.dst c) (.dma x.sS) hsc) (.dma x.rS) hs ht hsem) k) Q) := by
  rw [own_univ c (x.src c), own_univ (x.tg c) (x.dst c)]
  exact Rounds.wp_send_pointsTo 𝒱₀ ER (Rd ι) (c : Thread nD τ) none (Γ := .empty) (c' := (Dev.tc (x.tg c) : Thread nD τ)) (src := x.src c) (dst := x.dst c)
    (hsc := hsc) (sS := .dma x.sS) (sem := .dma x.rS) (hsrc := hs) (hdst := ht) (hsem := hsem) (k := k) (Q := Q) (κ₁ := K (c, some (false, x))) (κ₂ := K (x.tg c, some (true, x)))
    (r₁ := 0) (r₂ := 0) (d₁ := 0) (d₂ := 0) (fs := (x.src c).view.rep (cont ι x c)) (fd := (x.dst c).view.rep g)
    (by rw [duties_snd]; exact Finset.mem_singleton_self _) (by rw [duties_rcv]; exact Finset.mem_singleton_self _)
    () () x.N (X.dst_credit x c) (amount_snd ι c x 0) (amount_rcv ι (x.tg c) x 0) O rfl (W := W)
    (by rw [payload_snd]; unfold payS; rw [own_univ])
    (by rw [payload_rcv, payR_tg, read_rep']; exact Entails.of_eq (own_written (x.tg c) (x.dst c) ((x.dst c).view.rep g) (cont ι x c)))

/-- A send: the source window goes, at what the transfer carries. -/
theorem wp_send {hs : (x.src c).view.WordExact} {ht : (x.dst c).view.WordExact} :
    iprop(St ι K (sp x) c ∗ payS ι x c)
      ⊢ iprop((St ι K (sp x + 1) c -∗ WP c (k ⟨⟩) Q) -∗ WP c (sendP (x.tg c) (x.src c) (x.dst c) x.sS x.rS hs ht >>= k) Q) := by
  unfold St
  rw [ph_split ι (sp x) x, ph_split ι (sp x + 1) x, ph_ready, ph_sent, ph_send, owed_send]
  unfold ready flight land
  iintro ⟨⟨#HR, ⟨⟨HtS, HtR, ⟨%g, Hd⟩, HaS, HaR, HcR⟩, Hrest⟩, %W, HO⟩, Hs⟩ Hk
  unfold payS sendP
  simp only [Prog.lift, Prog.bind_op, Prog.bind_ret]
  iapply (send_core ι K c x g (owed (sp x + 1) c) W) $$ [Hs Hd HO HtS HtR]
  · isplitr; · iapply (rec_inv ι K (c, some (false, x))); iexact HR
    isplitr; · iapply (rec_inv ι K (x.tg c, some (true, x))); iexact HR
    isplitl [Hs]; · iexact Hs
    isplitl [Hd]; · iexact Hd
    isplitl [HO]; · iexact HO
    isplitl [HtS]; · iexact HtS
    isplitr; · iapply (rec_reached ι K (c, some (false, x))); iexact HR
    isplitl [HtR]; · iexact HtR
    iapply (rec_reached ι K (x.tg c, some (true, x))); iexact HR
  iintro ⟨HcS, HO⟩
  iapply Hk
  isplitr; · iexact HR
  isplitl [HcS HcR HaS HaR Hrest]
  · isplitl [HcS HcR HaS HaR]
    · isplitl [HcS]; · iexact HcS
      isplitl [HcR]; · iexact HcR
      isplitl [HaS]; · iexact HaS
      iexact HaR
    · iexact Hrest
  iexists W; iexact HO

/-- A wait: the landing window comes, at what its twin carried. -/
theorem wp_wait {hs : (x.src c).view.WordExact} {ht : (x.dst c).view.WordExact} :
    St ι K (wp' x) c
      ⊢ iprop((iprop(St ι K (wp' x + 1) c ∗ payR ι x c) -∗ WP c (k ⟨⟩) Q) -∗ WP c (waitP (x.src c) (x.dst c) x.sS x.rS hs ht >>= k) Q) := by
  unfold St
  rw [ph_split ι (wp' x) x, ph_split ι (wp' x + 1) x, ph_flight, ph_over, ph_wait, ← owed_wait]
  unfold flight over
  iintro ⟨#HR, ⟨⟨HcS, HcR, HaS, HaR⟩, Hrest⟩, %W, HO⟩ Hk
  unfold waitP
  simp only [Prog.lift, Prog.bind_op, Prog.bind_ret]
  iapply (Rounds.wp_wait_rest_token 𝒱₀ ER (Rd ι) (c : Thread nD τ) none (κ := K (c, some (false, x)))
      (wpE_waitDma2_eq 𝒱₀ (c : Thread nD τ) none Set.univ) (Set.mem_univ _) () (O := owed (wp' x) c) (W := W) (R := 0) (m := 0) (T := ∅)
      (by rw [Nat.zero_add, expect_snd, X.src_credit])) $$ [HcS HO HaS]
  · isplitr; · iapply (rec_inv ι K (c, some (false, x))); iexact HR
    isplitl [HcS]; · rw [X.src_credit]; iexact HcS
    isplitl [HO]; · iexact HO
    isplitr; · iapply (mayWait_snd x c); iapply (rec_lev ι K); iexact HR
    iexact HaS
  iintro ⟨HO, HaS, -, Hpay⟩
  ihave Hs := (Entails.of_eq (rest_snd ι c x)) $$ Hpay
  iapply (Rounds.wp_wait_rest_token 𝒱₀ ER (Rd ι) (c : Thread nD τ) none (κ := K (c, some (true, x)))
      (wpE_waitDma2_eq 𝒱₀ (c : Thread nD τ) none Set.univ) (Set.mem_univ _) () (O := owed (wp' x) c) (W := insert (SemLoc.dma x.sS, ()) W) (R := 0) (m := 0) (T := ∅)
      (by rw [Nat.zero_add, expect_rcv, X.dst_credit])) $$ [HcR HO HaR]
  · isplitr; · iapply (rec_inv ι K (c, some (true, x))); iexact HR
    isplitl [HcR]; · rw [X.dst_credit]; iexact HcR
    isplitl [HO]; · iexact HO
    isplitr; · iapply (mayWait_rcv x c); iapply (rec_lev ι K); iexact HR
    iexact HaR
  iintro ⟨HO, HaR, -, Hpay⟩
  ihave Hd := (Entails.of_eq (rest_rcv ι c x)) $$ Hpay
  imod (Rounds.cell_close ER (Rd ι) (Set.mem_univ (K (c, some (false, x)))) (fun h => h) (R := 0 + 1) (duties_later ι (sndCell x c))) $$ [HaS] with HzS
  · isplitr; · iapply (rec_inv ι K (c, some (false, x))); iexact HR
    iexact HaS
  imod (Rounds.cell_close ER (Rd ι) (Set.mem_univ (K (c, some (true, x)))) (fun h => h) (R := 0 + 1) (duties_later ι (rcvCell x c))) $$ [HaR] with HzR
  · isplitr; · iapply (rec_inv ι K (c, some (true, x))); iexact HR
    iexact HaR
  iapply Hk
  isplitr [Hd]
  · isplitr; · iexact HR
    isplitl [HzS HzR Hs Hrest]
    · isplitl [HzS HzR Hs]
      · isplitl [HzS]; · iexact HzS
        isplitl [HzR]; · iexact HzR
        iexact Hs
      · iexact Hrest
    · iexists (insert (SemLoc.dma x.rS, ()) (insert (SemLoc.dma x.sS, ()) W)); iexact HO
  · iexact Hd

/-! ## The barrier -/

/-- What a device has at launch for a transfer. -/
def fresh (x : X) (c : Dev nD) : sProp (MM F) :=
  iprop(dutyTok ER (sndCell x c) 0 0 ∗ dutyTok ER (rcvCell x (x.tg c)) 0 0
    ∗ atPos ER (sndCell x c) 0 ∅ 0 ∗ atPos ER (rcvCell x c) 0 ∅ 0 ∗ cred (tallyAt (rcvCell x c) () x.N))

/-- Its own landing windows of the transfers of a class. -/
def mineOf (c : Dev nD) (d : Fin 3) : sProp (MM F) := bigSep (Finset.univ.filter fun x => cls x = d) fun x => iprop(∃ g, Own c (x.dst c) Finset.univ g)

theorem barPay_eq (d : Fin 3) : barPay (F := F) (bn d c) d = mineOf c d := by
  unfold barPay mineOf
  refine bigSep_congr fun x hx => ?_
  have h : x.tg (bn d c) = c := by rw [tg_cls, (Finset.mem_filter.mp hx).2, nb_bn]
  have h' : x.dst (bn d c) = x.dst c := by rw [← X.dst_tg, h]
  unfold land
  rw [h, h']

/-- A signal: the landing windows of a class go to the neighbour that sends there. -/
theorem wp_sig (d : Fin 3) (O : CellTallies nD τ sig Unit) (W) :
    iprop(Rec ι K ∗ owes (c : Thread nD τ) (O + bars c d) W ∗ dutyTok ER (barCell (bn d c)) 0 d ∗ mineOf (F := F) c d)
      ⊢ iprop((owes (c : Thread nD τ) O W -∗ WP c (k ⟨⟩) Q) -∗ WP c (semSignalWord (bn d c) barS 1#32 >>= k) Q) := by
  unfold bars
  iintro ⟨#HR, HO, Ht, Hm⟩ Hk
  simp only [semSignalWord, Prog.lift, Prog.bind_op, Prog.bind_ret]
  iapply (Rounds.wp_signal 𝒱₀ ER (Rd ι) (c : Thread nD τ) none (dst := ((bn d c : Dev nD) : Thread nD τ)) (κ := K (bn d c, none))
      (d := d) (by rw [duties_bar]; exact Finset.mem_univ _) ((amount_bar ι (bn d c) d).trans (by decide)) () O rfl) $$ [HO Ht Hm]
  · isplitr; · iapply (rec_inv ι K (bn d c, none)); iexact HR
    isplitl [HO]; · iexact HO
    isplitl [Ht]; · iexact Ht
    isplitl [Hm]; · rw [payload_bar, barPay_eq]; iexact Hm
    iapply (rec_reached ι K (bn d c, none)); iexact HR
  iexact Hk

theorem start_ready :
    iprop((bigSep Finset.univ fun x => fresh (F := F) x c) ∗ bigSep Finset.univ fun x => land (F := F) x c) ⊢ bigSep Finset.univ fun x => ph ι 0 x c :=
  (Entails.of_eq (bigSep_sep' Finset.univ (fun x => fresh (F := F) x c) fun x => land (F := F) x c).symm).trans
    (bigSep_mono fun x _ => show iprop(fresh (F := F) x c ∗ land (F := F) x c) ⊢ ph ι 0 x c from by
      unfold ph
      rw [if_pos (Nat.zero_le _)]
      unfold fresh ready
      iintro ⟨⟨H1, H2, H3, H4, H5⟩, H6⟩
      isplitl [H1]; · iexact H1
      isplitl [H2]; · iexact H2
      isplitl [H6]; · iexact H6
      isplitl [H3]; · iexact H3
      isplitl [H4]; · iexact H4
      iexact H5)

/-- The barrier: a device hands its landing windows to its neighbours and gets those of its own transfers. -/
theorem wp_barrier {W} :
    iprop(Rec ι K ∗ owes (c : Thread nD τ) (O₀ c) W
        ∗ (dutyTok ER (barCell (bn 0 c)) 0 0 ∗ dutyTok ER (barCell (bn 1 c)) 0 1 ∗ dutyTok ER (barCell (bn 2 c)) 0 2)
        ∗ (mineOf (F := F) c 0 ∗ mineOf (F := F) c 1 ∗ mineOf (F := F) c 2) ∗ cred (tallyAt (barCell c) () 3) ∗ atPos ER (barCell c) 0 ∅ 0
        ∗ bigSep Finset.univ fun x => fresh (F := F) x c)
      ⊢ iprop((iprop(St ι K 0 c ∗ semVal (barCell c) 0) -∗ WP c (k ⟨⟩) Q) -∗ WP c (barrierP (lf c) (rt c) (zp c) >>= k) Q) := by
  unfold barrierP O₀
  simp only [bind_assoc]
  iintro ⟨#HR, HO, ⟨Ht0, Ht1, Ht2⟩, ⟨Hm0, Hm1, Hm2⟩, HcB, HaB, Hf⟩ Hk
  iapply (wp_sig ι K c 0 (owed 0 c + bars c 2 + bars c 1) W) $$ [HO Ht0 Hm0]
  · isplitr; · iexact HR
    isplitl [HO]; · iexact HO
    isplitl [Ht0]; · iexact Ht0
    iexact Hm0
  iintro HO
  iapply (wp_sig ι K c 1 (owed 0 c + bars c 2) W) $$ [HO Ht1 Hm1]
  · isplitr; · iexact HR
    isplitl [HO]; · iexact HO
    isplitl [Ht1]; · iexact Ht1
    iexact Hm1
  iintro HO
  iapply (wp_sig ι K c 2 (owed 0 c) W) $$ [HO Ht2 Hm2]
  · isplitr; · iexact HR
    isplitl [HO]; · iexact HO
    isplitl [Ht2]; · iexact Ht2
    iexact Hm2
  iintro HO
  simp only [semWaitWord, Prog.lift, Prog.bind_op, Prog.bind_ret]
  iapply (Rounds.wp_wait_rest_token 𝒱₀ ER (Rd ι) (c : Thread nD τ) none (κ := K (c, none))
      (wpE_semWait_eq 𝒱₀ (c : Thread nD τ) none Set.univ) (Set.mem_univ _) () (O := owed 0 c) (W := W) (R := 0) (m := 0) (T := ∅)
      (by rw [expect_bar]; decide)) $$ [HcB HO HaB]
  · isplitr; · iapply (rec_inv ι K (c, none)); iexact HR
    isplitl [HcB]; · iexact HcB
    isplitl [HO]; · iexact HO
    isplitr; · iapply (mayWait_bar c); iapply (rec_lev ι K); iexact HR
    iexact HaB
  iintro ⟨HO, HaB, -, Hpay⟩
  ihave Hl := (Entails.of_eq (rest_bar ι c)) $$ Hpay
  imod (Rounds.cell_close ER (Rd ι) (Set.mem_univ (K (c, none))) (fun h => h) (R := 0 + 1) (duties_later ι (barCell c))) $$ [HaB] with HzB
  · isplitr; · iapply (rec_inv ι K (c, none)); iexact HR
    iexact HaB
  iapply Hk
  isplitr [HzB]
  · unfold St
    isplitr; · iexact HR
    isplitr [HO]
    · iapply (start_ready ι c)
      isplitl [Hf]; · iexact Hf
      iexact Hl
    · iexists _; iexact HO
  · iexact HzB
end

end Cert.KernelIdeal.RS
end
-- ==== Proof.KernelIdeal.Regions.lean ====
/-
The rectangles of the scratch buffers, the contents they hold as functions of the buffers' indices, what the transfers'
windows are of them, and the kernel's stored values elementwise.
-/
module

public import proofs.«01_k».proof.Proof.KernelIdeal.Steps
public import Idealize.ShloMosaic.Lib.Pipeline.Value

@[expose] public section

noncomputable section

namespace Cert.KernelIdeal.RS

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Indices -/

theorem mem2 {a b m n : Nat} {off : Fin 2 → Nat} {inb} {i : (⟨2, ![a, b]⟩ : Shape).Idx} :
    i ∈ (Rect.unit (s := ⟨2, ![a, b]⟩) off ![m, n] inb).set
      ↔ (off 0 ≤ (i 0).val ∧ (i 0).val < off 0 + m) ∧ (off 1 ≤ (i 1).val ∧ (i 1).val < off 1 + n) := by
  rw [Rect.mem_set_unit]
  exact ⟨fun h => ⟨h 0, h 1⟩, fun h x => by fin_cases x; exacts [h.1, h.2]⟩
theorem mem3 {a b c l m n : Nat} {off : Fin 3 → Nat} {inb} {i : (⟨3, ![a, b, c]⟩ : Shape).Idx} :
    i ∈ (Rect.unit (s := ⟨3, ![a, b, c]⟩) off ![l, m, n] inb).set
      ↔ (off 0 ≤ (i 0).val ∧ (i 0).val < off 0 + l) ∧ (off 1 ≤ (i 1).val ∧ (i 1).val < off 1 + m) ∧ (off 2 ≤ (i 2).val ∧ (i 2).val < off 2 + n) := by
  rw [Rect.mem_set_unit]
  exact ⟨fun h => ⟨h 0, h 1, h 2⟩, fun h x => by fin_cases x; exacts [h.1, h.2.1, h.2.2]⟩

theorem emb_at {s : Shape} (r : Rect s) (k : r.shape.Idx) (a : Fin s.rank) {n : Nat} (hr : r.stride a = 1) (hn : r.off a + (k a).val = n) :
    n = (r.emb k a).val := by
  rw [Rect.emb_apply]; show n = r.off a + r.stride a * (k a).val; rw [hr, ← hn, Nat.one_mul]

theorem cast_up {α : Type} {a b : Nat} (v : (⟨2, ![a, b]⟩ : Shape).Idx → α) (h) (k : (⟨3, ![1, a, b]⟩ : Shape).Idx) :
    shapeCast ⟨3, ![1, a, b]⟩ v h k = v (ix2 (k 1) (k 2)) := by
  have hk : k = Fin.cons ⟨0, Nat.one_pos⟩ (ix2 (k 1) (k 2) : (⟨2, ![a, b]⟩ : Shape).Idx) := by
    funext x
    fin_cases x
    · exact Subsingleton.elim (α := Fin 1) _ _
    · rfl
    · rfl
  have h' := Shape.reshapeEquiv_cons_one (n := 2) (d := ![a, b]) (Eq.symm h) (ix2 (k 1) (k 2))
  rw [← hk] at h'
  exact congrArg v (Shape.reshapeEquiv_eq_of_rowMajor _ (by
    have := Shape.rowMajor_reshapeEquiv (Eq.symm h) (ix2 (k 1) (k 2) : (⟨2, ![a, b]⟩ : Shape).Idx)
    rw [h'] at this; exact this.symm))
theorem cast_dn {α : Type} {a b : Nat} (v : (⟨3, ![1, a, b]⟩ : Shape).Idx → α) (h) (k : (⟨2, ![a, b]⟩ : Shape).Idx) :
    shapeCast ⟨2, ![a, b]⟩ v h k = v (ix3 0 (k 0) (k 1)) := by
  unfold shapeCast
  refine congrArg v ?_
  rw [Shape.reshapeEquiv_cons_one (n := 2) (d := ![a, b])]
  funext x
  fin_cases x <;> rfl

/-! ## The stored values, elementwise -/

theorem iniA_apply (a : FVec F S512x256 .f32) (k : S1x512x256.Idx) : iniA a k = cut16 (a (ix2 (k 1) (k 2))) :=
  cast_up (fun q => cut16 (a q)) shapeCasts_S512x256_S1x512x256 k
theorem addA_apply (j : Fin 2) (a : FVec F S512x256 .f32) (v : Vec F S1x512x128 .bf16) (k : S1x512x128.Idx) (q : S512x256.Idx)
    (h0 : (q 0).val = (k 1).val) (h1 : (q 1).val = 128 * j.val + (k 2).val) :
    addA j a v k = cut16 (FloatOps.addf (ext16 (v k)) (a q)) := by
  have hk : (ix3 0 (k 1) (k 2) : S1x512x128.Idx) = k := by
    funext x
    fin_cases x
    · exact Subsingleton.elim (α := Fin 1) _ _
    · rfl
    · rfl
  have hv : shapeCast S512x128 v shapeCasts_S1x512x128_S512x128 (ix2 (k 1) (k 2)) = v k := (cast_dn v _ _).trans (congrArg v hk)
  have hz (off : Fin 2 → Nat) (hs) (ho : off = ![0, 128 * j.val]) : extractStridedSlice S512x128 off a hs (ix2 (k 1) (k 2)) = a q :=
    extractStridedSlice_apply off a hs _ q fun x => by
      subst ho
      fin_cases x
      · show (q 0).val = 0 + (k 1).val; omega
      · exact h1
  fin_cases j
  · exact (cast_up (fun q => cut16 (FloatOps.addf (ext16 (shapeCast S512x128 v shapeCasts_S1x512x128_S512x128 q)) (extractStridedSlice S512x128 ![0, 0] a (by decide) q))) shapeCasts_S512x128_S1x512x128 k).trans (congrArg₂ (fun x y => cut16 (FloatOps.addf (ext16 x) y)) hv (hz _ (by decide) rfl))
  · exact (cast_up (fun q => cut16 (FloatOps.addf (ext16 (shapeCast S512x128 v shapeCasts_S1x512x128_S512x128 q)) (extractStridedSlice S512x128 ![0, 128] a (by decide) q))) shapeCasts_S512x128_S1x512x128 k).trans (congrArg₂ (fun x y => cut16 (FloatOps.addf (ext16 x) y)) hv (hz _ (by decide) rfl))
theorem iniB_apply (y : Vec F S512x768 .bf16) (z : Vec F S512x768 .fp8e4m3) (k : S1x512x768.Idx) :
    iniB y z k = cut16 (FloatOps.addf (ext16 (y (ix2 (k 1) (k 2)))) (ext8 (z (ix2 (k 1) (k 2))))) :=
  cast_up (fun q => cut16 (FloatOps.addf (ext16 (y q)) (ext8 (z q)))) shapeCasts_S512x768_S1x512x768 k
theorem addB_apply (v : Vec F S1x512x768 .bf16) (y : Vec F S512x768 .bf16) (z : Vec F S512x768 .fp8e4m3) (k : S1x512x768.Idx) :
    addB v y z k = cut16 (FloatOps.addf (ext16 (v (ix3 0 (k 1) (k 2)))) (FloatOps.addf (ext16 (y (ix2 (k 1) (k 2)))) (ext8 (z (ix2 (k 1) (k 2)))))) :=
  (cast_up (fun q => cut16 (FloatOps.addf (ext16 (shapeCast S512x768 v shapeCasts_S1x512x768_S512x768 q)) (FloatOps.addf (ext16 (y q)) (ext8 (z q))))) shapeCasts_S512x768_S1x512x768 k).trans
    (congrArg (fun x => cut16 (FloatOps.addf (ext16 x) (FloatOps.addf (ext16 (y (ix2 (k 1) (k 2)))) (ext8 (z (ix2 (k 1) (k 2))))))) (cast_dn v shapeCasts_S1x512x768_S512x768 _))
theorem finB_apply (s : F .f32) (v : Vec F S1x512x768 .bf16) (y : Vec F S512x768 .bf16) (z : Vec F S512x768 .fp8e4m3) (k : S512x768.Idx) :
    finB s v y z k = relu s (FloatOps.addf (ext16 (v (ix3 0 (k 0) (k 1)))) (FloatOps.addf (ext16 (y k)) (ext8 (z k)))) :=
  congrArg (fun x => relu s (FloatOps.addf (ext16 x) (FloatOps.addf (ext16 (y k)) (ext8 (z k))))) (cast_dn v shapeCasts_S1x512x768_S512x768 k)
theorem finA_apply (s : F .f32) (v : Vec F S1x512x256 .bf16) (z : Vec F S512x256 .bf16) (k : S512x256.Idx) :
    finA s v z k = relu s (FloatOps.addf (ext16 (v (ix3 0 (k 0) (k 1)))) (ext16 (z k))) :=
  congrArg (fun x => relu s (FloatOps.addf (ext16 x) (ext16 (z k)))) (cast_dn v shapeCasts_S1x512x256_S512x256 k)
theorem copyX_apply (v : Vec F S4096x512 .fp8e4m3) : k0_pay2 v = v := by
  unfold k0_pay2; exact (shapeCast_self _ _).trans (shapeCast_self _ _)
theorem copyW0_apply (v : Vec F S512x512 .fp8e5m2) : k0_pay3 v = v := by
  unfold k0_pay3; exact (shapeCast_self _ _).trans (shapeCast_self _ _)
theorem copyW1_apply (v : Vec F S512x1536 .fp8e5m2) : k0_pay11 (k0_pay10 v) = v := by
  exact (shapeCast_self _ _).trans (shapeCast_self _ _)

/-! ## The contents -/

variable (ι : Ins F) (d : Bool) (c : Dev nD)

def gA : S4x1024x256.Idx → Elt F .bf16 := fun i => SA ι d (i 0).val c (i 1) (i 2)
def gAL : S4x1024x256.Idx → Elt F .bf16 := fun i => SA ι d ((i 0).val - 1) (up d c) (i 1) (i 2)
def gS : S2048x1536.Idx → Elt F .fp8e4m3 := fun i => snd ι c (i 0) (i 1)
def gM : S2048x1536.Idx → Elt F .bf16 := fun i => mine ι c (i 0) (i 1)
def gB : S4x512x768.Idx → Elt F .bf16 := fun i => SB ι d (i 0).val c (i 1) (i 2)
def gBL : S4x512x768.Idx → Elt F .bf16 := fun i => SB ι d ((i 0).val - 1) (up d c) (i 1) (i 2)
def gZ : S512x256.Idx → Elt F .bf16 := fun i =>
  SA ι d 3 (zp c) ⟨myO c + (i 0).val, by have := myO_le c; have : (i 0).val < 512 := (i 0).isLt; omega⟩ (i 1)

abbrev rPc (t : Fin 4) : Rect S2048x1536 := rP (offP d c t) (inbP d c t)
abbrev rZs (j : Fin 2) : Rect S4x1024x256 := Rect.unit (s := S4x1024x256) (offZ c j) S1x512x128.size (inbZs c j)
abbrev rY : Rect S4x1024x256 := Rect.unit (s := S4x1024x256) (offY c) S1x512x256.size (inbY c)

/-! ## The windows -/

theorem SA_eq {n n' : ℕ} {i i' : Fin 1024} {l l' : Fin 256} (hn : n = n') (hi : i.val = i'.val) (hl : l.val = l'.val) :
    SA ι d n c i l = SA ι d n' c i' l' := by
  rw [hn, Fin.ext hi, Fin.ext hl]
theorem SB_eq {n n' : ℕ} {i i' : Fin 512} {l l' : Fin 768} (hn : n = n') (hi : i.val = i'.val) (hl : l.val = l'.val) :
    SB ι d n c i l = SB ι d n' c i' l' := by
  rw [hn, Fin.ext hi, Fin.ext hl]
theorem snd_eq {i i' : Fin 2048} {l l' : Fin 1536} (hi : i.val = i'.val) (hl : l.val = l'.val) : snd ι c i l = snd ι c i' l' := by
  rw [Fin.ext hi, Fin.ext hl]
theorem payS_a (h : Fin 3) (j : Fin 2) : payS ι (.a d h j) c = Own c (Ma d) (rA h.castSucc j).set (gA ι d c) :=
  own_window c (h := squeezes_S1x1024x128_S1024x128) fun k => by
    rw [Shape.reshapeEquiv_cons_one (n := 2) (d := ![1024, 128])]
    exact SA_eq ι d c (emb_at _ _ 0 rfl rfl) (emb_at _ _ 1 rfl (Nat.zero_add _)) (emb_at _ _ 2 rfl rfl)
theorem payR_a (h : Fin 3) (j : Fin 2) : payR ι (.a d h j) c = Own c (Ma d) (rA h.succ j).set (gAL ι d c) :=
  own_window c (h := squeezes_S1x1024x128_S1024x128) fun k => by
    rw [Shape.reshapeEquiv_cons_one (n := 2) (d := ![1024, 128])]
    exact SA_eq ι d (up d c) (congrArg (· - 1) (emb_at _ _ 0 rfl (n := h.val + 1) rfl)) (emb_at _ _ 1 rfl (Nat.zero_add _)) (emb_at _ _ 2 rfl rfl)
theorem payS_b (h : Fin 3) : payS ι (.b d h) c = Own c (Mb d) (rB h.castSucc).set (gB ι d c) :=
  own_window c (h := squeezes_S1x512x768_S512x768) fun k => by
    rw [Shape.reshapeEquiv_cons_one (n := 2) (d := ![512, 768])]
    exact SB_eq ι d c (emb_at _ _ 0 rfl rfl) (emb_at _ _ 1 rfl (Nat.zero_add _)) (emb_at _ _ 2 rfl (Nat.zero_add _))
theorem payR_b (h : Fin 3) : payR ι (.b d h) c = Own c (Mb d) (rB h.succ).set (gBL ι d c) :=
  own_window c (h := squeezes_S1x512x768_S512x768) fun k => by
    rw [Shape.reshapeEquiv_cons_one (n := 2) (d := ![512, 768])]
    exact SB_eq ι d (up d c) (congrArg (· - 1) (emb_at _ _ 0 rfl (n := h.val + 1) rfl)) (emb_at _ _ 1 rfl (Nat.zero_add _)) (emb_at _ _ 2 rfl (Nat.zero_add _))
theorem payS_p (t : Fin 4) : payS ι (.p d t) c = Own c Msnd (rPc d c t).set (gS ι c) := by
  refine Eq.trans ?_ (own_slice c (m := Msnd) (r := rPc d c t) (hr := fun _ => rfl) (g := (gS ι c)))
  refine congrArg (Own c (Msnd.slice (rPc d c t) fun _ => rfl) Finset.univ) (funext fun k => ?_)
  exact snd_eq ι c (emb_at _ _ 0 rfl rfl) (emb_at _ _ 1 rfl rfl)
theorem payR_p (t : Fin 4) : payR ι (.p d t) c = Own c Mz (rPc d c t).set (gS ι (zp c)) := by
  refine Eq.trans ?_ (own_slice c (m := Mz) (r := rPc d c t) (hr := fun _ => rfl) (g := (gS ι (zp c))))
  refine congrArg (Own c (Mz.slice (rPc d c t) fun _ => rfl) Finset.univ) (funext fun k => ?_)
  exact snd_eq ι (zp c) ((congrArg (fun n : Fin 4 => 512 * n.val + (k 0).val) (ci_zp d c t)).trans (emb_at _ _ 0 rfl rfl)) (emb_at _ _ 1 rfl rfl)
theorem payS_z (j : Fin 2) : payS ι (.z d j) c = Own c (Ma d) (rZs c j).set (gA ι d c) :=
  own_window c (h := squeezes_S1x512x128_S512x128) fun k => by
    rw [Shape.reshapeEquiv_cons_one (n := 2) (d := ![512, 128])]
    exact SA_eq ι d c (emb_at _ _ 0 rfl rfl) (emb_at _ _ 1 rfl rfl) (emb_at _ _ 2 rfl rfl)
theorem payR_z (j : Fin 2) : payR ι (.z d j) c = Own c (Mza d) (rZ j).set (gZ ι d c) := by
  refine Eq.trans ?_ (own_slice c (m := Mza d) (r := rZ j) (hr := fun _ => rfl) (g := (gZ ι d c)))
  refine congrArg (Own c ((Mza d).slice (rZ j) fun _ => rfl) Finset.univ) (funext fun k => ?_)
  exact SA_eq ι d (zp c) rfl ((congrArg (· + (k 0).val) (paO_zp c)).trans (congrArg (myO c + ·) (emb_at _ _ 0 rfl (Nat.zero_add _)))) (emb_at _ _ 1 rfl rfl)

/-! ## Splitting -/

theorem slab_split (h : Fin 4) (g : S4x1024x256.Idx → Elt F .bf16) :
    Own c (Ma d) ((rA h 0).set ∪ (rA h 1).set) g = iprop(Own c (Ma d) (rA h 0).set g ∗ Own c (Ma d) (rA h 1).set g) :=
  own_union c (Finset.disjoint_left.mpr fun i h0 h1 => by
    have h0 := (mem3.mp h0).2.2.2; have h1 := (mem3.mp h1).2.2.1
    simp at h0 h1; omega)

/-- A column half of the last slab: the rows sent to the other group, and those kept. -/
abbrev rK (j : Fin 2) : Rect S4x1024x256 := Rect.unit (s := S4x1024x256) ![3, myO c, 128 * j.val] S1x512x128.size
  (by revert c j; decide)
theorem last_split (j : Fin 2) (g : S4x1024x256.Idx → Elt F .bf16) :
    Own c (Ma d) (rA 3 j).set g = iprop(Own c (Ma d) (rZs c j).set g ∗ Own c (Ma d) (rK c j).set g) := by
  have hc : (myO c = 0 ∧ paO c = 512) ∨ (myO c = 512 ∧ paO c = 0) := by unfold myO paO; split <;> simp
  rw [← own_union c (Finset.disjoint_left.mpr fun i h0 h1 => by
    have h0 := (mem3.mp h0).2.1; have h1 := (mem3.mp h1).2.1
    simp at h0 h1; omega)]
  refine congrArg (fun I => Own c (Ma d) I g) (Finset.ext fun i => ?_)
  rw [Finset.mem_union, mem3, mem3, mem3]
  have : (i 1).val < 1024 := (i 1).isLt
  simp
  omega
theorem kept (g : S4x1024x256.Idx → Elt F .bf16) :
    iprop(Own c (Ma d) (rK c 0).set g ∗ Own c (Ma d) (rK c 1).set g) = Own c (Ma d) (rY c).set g := by
  rw [← own_union c (Finset.disjoint_left.mpr fun i h0 h1 => by
    have h0 := (mem3.mp h0).2.2; have h1 := (mem3.mp h1).2.2
    simp at h0 h1; omega)]
  refine congrArg (fun I => Own c (Ma d) I g) (Finset.ext fun i => ?_)
  rw [Finset.mem_union, mem3, mem3, mem3]
  have : (i 2).val < 256 := (i 2).isLt
  simp
  omega
theorem za_join (g : S512x256.Idx → Elt F .bf16) :
    iprop(Own c (Mza d) (rZ 0).set g ∗ Own c (Mza d) (rZ 1).set g) = Own c (Mza d) Finset.univ g := by
  rw [← own_union c (Finset.disjoint_left.mpr fun i h0 h1 => by
    have h0 := (mem2.mp h0).2; have h1 := (mem2.mp h1).2
    simp at h0 h1; omega)]
  refine congrArg (fun I => Own c (Mza d) I g) (Finset.ext fun i => ?_)
  rw [Finset.mem_union, mem2, mem2]
  have : (i 0).val < 512 := (i 0).isLt
  have : (i 1).val < 256 := (i 1).isLt
  simp
  omega
theorem w_split (g : S512x2048.Idx → Elt F .fp8e5m2) :
    Own c Mw8 Finset.univ g = iprop(Own c Mw8 rW0.set g ∗ Own c Mw8 rU.set g) := by
  rw [← own_union c (Finset.disjoint_left.mpr fun i h0 h1 => by
    have h0 := (mem2.mp h0).2; have h1 := (mem2.mp h1).2
    simp at h0 h1; omega)]
  refine congrArg (fun I => Own c Mw8 I g) (Finset.ext fun i => ?_)
  rw [Finset.mem_union, mem2, mem2]
  have : (i 0).val < 512 := (i 0).isLt
  have : (i 1).val < 2048 := (i 1).isLt
  simp
  omega

end Cert.KernelIdeal.RS
end
-- ==== Proof.KernelIdeal.Body.lean ====
/-
The rules of the kernel's pieces: each at what the buffers hold before it and after it.
-/
module

public import proofs.«01_k».proof.Proof.KernelIdeal.Regions
public import Idealize.ShloMosaic.Lib.Exec.Context

@[expose] public section

noncomputable section

namespace Cert.KernelIdeal.RS

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem emb_mem {s : Shape} (r : Rect s) (k : r.shape.Idx) : r.emb k ∈ r.set := r.idx_mem k

variable (ι : Ins F) (K : Dev nD × Cl → ℕ) (c : Dev nD)

section
variable {α : Type} {Q : α → sProp (MM F)}

/-! ## Operands -/

theorem wp_copyX {k : PUnit → KP F α} :
    iprop(Own c Mx Finset.univ (ι.x c) ∗ ∃ g, Own c Mx8 Finset.univ g)
      ⊢ iprop((iprop(Own c Mx Finset.univ (ι.x c) ∗ Own c Mx8 Finset.univ (ι.x c)) -∗ WP c (k ⟨⟩) Q) -∗ WP c (copyXP >>= k) Q) := by
  unfold copyXP
  simp only [bind_assoc]
  iintro ⟨Hx, %g, H8⟩ Hk
  iapply (wp_ld c (Finset.subset_univ _)) $$ Hx
  iintro Hx
  iapply (wp_st c (g' := ι.x c) (Finset.subset_univ _) (fun j => (congrFun (copyX_apply fun j => ι.x c (rX0.emb j)) j).symm) (fun i _ hi => absurd (mem2.mpr (by
    have : (i 0).val < 4096 := (i 0).isLt
    have : (i 1).val < 512 := (i 1).isLt
    simp; omega)) hi)) $$ H8
  iintro H8
  iapply Hk
  isplitl [Hx]; · iexact Hx
  iexact H8

theorem wp_copyW0 {k : PUnit → KP F α} :
    iprop(Own c Mw Finset.univ (ι.w c) ∗ ∃ g, Own c Mw8 rW0.set g)
      ⊢ iprop((iprop(Own c Mw Finset.univ (ι.w c) ∗ Own c Mw8 rW0.set (ι.w c)) -∗ WP c (k ⟨⟩) Q) -∗ WP c (copyW0P >>= k) Q) := by
  unfold copyW0P
  simp only [bind_assoc]
  iintro ⟨Hx, %g, H8⟩ Hk
  iapply (wp_ld c (Finset.subset_univ _)) $$ Hx
  iintro Hx
  iapply (wp_st c (g' := ι.w c) (Finset.Subset.refl _) (fun j => (congrFun (copyW0_apply fun j => ι.w c (rW0.emb j)) j).symm) (fun i h hi => absurd h hi)) $$ H8
  iintro H8
  iapply Hk
  isplitl [Hx]; · iexact Hx
  iexact H8

theorem wp_copyW1 {k : PUnit → KP F α} :
    iprop(Own c Mw Finset.univ (ι.w c) ∗ ∃ g, Own c Mw8 rU.set g)
      ⊢ iprop((iprop(Own c Mw Finset.univ (ι.w c) ∗ Own c Mw8 rU.set (ι.w c)) -∗ WP c (k ⟨⟩) Q) -∗ WP c (copyW1P >>= k) Q) := by
  unfold copyW1P
  simp only [bind_assoc]
  iintro ⟨Hx, %g, H8⟩ Hk
  iapply (wp_ld c (Finset.subset_univ _)) $$ Hx
  iintro Hx
  iapply (wp_st c (g' := ι.w c) (Finset.Subset.refl _) (fun j => (congrFun (copyW1_apply fun j => ι.w c (rU.emb j)) j).symm) (fun i h hi => absurd h hi)) $$ H8
  iintro H8
  iapply Hk
  isplitl [Hx]; · iexact Hx
  iexact H8

theorem rW_sub (d : Bool) : (rW d).set ⊆ rW0.set := fun i hi => by
  have h := mem2.mp hi
  refine mem2.mpr ?_
  have := (bit d).isLt
  simp at h ⊢
  omega
theorem rV_sub (d : Bool) : (rV d).set ⊆ rU.set := fun i hi => by
  have h := mem2.mp hi
  refine mem2.mpr ?_
  have := (bit d).isLt
  simp at h ⊢
  omega

/-- The operands' copies, once both parts of `w` are there. -/
def Ops0 : sProp (MM F) := iprop(Own c Mx8 Finset.univ (ι.x c) ∗ Own c Mw8 rW0.set (ι.w c))

theorem wp_part {d : Bool} {o ho} (b : Fin 8) (h : o = offX b) {k : FVec F S512x256 .f32 → KP F α} :
    Ops0 ι c ⊢ iprop((Ops0 ι c -∗ WP c (k (mmA (xB ι c b) (wA ι c d))) Q) -∗ WP c (partP d o ho >>= k) Q) := by
  subst h
  unfold partP Ops0
  simp only [bind_assoc, pure_bind]
  iintro ⟨Hx, Hw⟩ Hk
  iapply (wp_ld c (Finset.subset_univ _)) $$ Hx
  iintro Hx
  iapply (wp_ld c (rW_sub d)) $$ Hw
  iintro Hw
  iapply Hk
  isplitl [Hx]; · iexact Hx
  iexact Hw

/-! ## The first ring -/

variable (d : Bool)

theorem ofNat_succ (h : Fin 3) : Fin.ofNat 4 (h.val + 1) = h.succ := Fin.ext (Nat.mod_eq_of_lt (by have := h.isLt; omega))
theorem SA_succ (h : Fin 3) (i : Fin 1024) (l : Fin 256) :
    SA ι d (h.val + 1) c i l = cut16 (FloatOps.addf (ext16 (SA ι d h.val (up d c) i l)) (pA ι d c h.succ i l)) := by
  rw [← ofNat_succ]; rfl
theorem SB_succ (h : Fin 3) (i : Fin 512) (l : Fin 768) :
    SB ι d (h.val + 1) c i l = cut16 (FloatOps.addf (ext16 (SB ι d h.val (up d c) i l)) (bv ι d c h.succ i l)) := by
  rw [← ofNat_succ]; rfl

/-- The product of a hop at one row half. -/
abbrev prA (h : Fin 4) (r : Fin 2) : FVec F S512x256 .f32 := mmA (xB ι c (kA d c h r)) (wA ι c d)

theorem pA_eq {h : Fin 4} {r : Fin 2} {i : Fin 1024} {l : Fin 256} (hr : i.val / 512 = r.val) :
    pA ι d c h i l = prA ι c d h r (ix2 (lo i) l) := by
  unfold pA
  rw [show hf i = r from Fin.ext hr]

theorem wp_acc {h : Fin 4} {r j : Fin 2} {a : FVec F S512x256 .f32} {I g g'} {k : PUnit → KP F α} (hI : (rC h r j).set ⊆ I)
    (h1 : ∀ i ∈ (rC h r j).set, g' i = cut16 (FloatOps.addf (ext16 (g i)) (a (ix2 (lo (i 1)) (i 2)))))
    (h2 : ∀ i ∈ I, i ∉ (rC h r j).set → g' i = g i) :
    Own c (Ma d) I g ⊢ iprop((Own c (Ma d) I g' -∗ WP c (k ⟨⟩) Q) -∗ WP c (accAP d h r j a >>= k) Q) := by
  unfold accAP
  simp only [bind_assoc]
  iintro H Hk
  iapply (wp_ld c hI) $$ H
  iintro H
  iapply (wp_st c (g' := g') hI (fun q => (h1 _ (emb_mem _ q)).trans (addA_apply j a (fun q => g ((rC h r j).emb q)) q (ix2 (lo ((rC h r j).emb q 1)) ((rC h r j).emb q 2))
    (by
      have e := emb_at (rC h r j) q 1 rfl rfl
      have : (q 1).val < 512 := (q 1).isLt
      show ((rC h r j).emb q 1).val % 512 = _
      rw [← e]
      show (512 * r.val + (q 1).val) % 512 = _
      omega)
    (emb_at (rC h r j) q 2 rfl rfl).symm).symm) h2) $$ H
  iexact Hk

theorem wp_ini {k : PUnit → KP F α} :
    iprop(∃ g, Own c (Ma d) ((rA 0 0).set ∪ (rA 0 1).set) g)
      ⊢ iprop((Own c (Ma d) ((rA 0 0).set ∪ (rA 0 1).set) (gA ι d c) -∗ WP c (k ⟨⟩) Q)
        -∗ WP c (initAP d 0 (prA ι c d 0 0) >>= fun _ => initAP d 1 (prA ι c d 0 1) >>= k) Q) := by
  unfold initAP
  have hsub (r : Fin 2) : (rI r).set ⊆ (rA 0 0).set ∪ (rA 0 1).set := fun i hi => by
    have h := mem3.mp hi
    have := r.isLt
    rw [Finset.mem_union, mem3, mem3]
    simp at h ⊢
    omega
  have hval (r : Fin 2) (q : (rI r).shape.Idx) : gA ι d c ((rI r).emb q) = iniA (prA ι c d 0 r) q := by
    have e0 := emb_at (rI r) q 0 rfl rfl
    have e1 := emb_at (rI r) q 1 rfl rfl
    have e2 := emb_at (rI r) q 2 rfl rfl
    have : (q 0).val < 1 := (q 0).isLt
    have : (q 1).val < 512 := (q 1).isLt
    replace e0 : (q 0).val = ((rI r).emb q 0).val := (Nat.zero_add _).symm.trans e0
    replace e1 : 512 * r.val + (q 1).val = ((rI r).emb q 1).val := e1
    replace e2 : (q 2).val = ((rI r).emb q 2).val := (Nat.zero_add _).symm.trans e2
    rw [iniA_apply]
    unfold gA
    rw [show ((rI r).emb q 0).val = 0 by omega]
    refine congrArg cut16 ((pA_eq ι c d (r := r) (by omega)).trans (congrArg _ ?_))
    funext x
    fin_cases x
    · exact Fin.ext (show ((rI r).emb q 1).val % 512 = (q 1).val by omega)
    · exact Fin.ext e2.symm
  iintro ⟨%g, H⟩ Hk
  iapply (wp_st c (g' := fun i => if i ∈ (rI 0).set then gA ι d c i else g i) (hsub 0)
    (fun q => (if_pos (emb_mem _ q)).trans (hval 0 q)) (fun i _ hi => if_neg hi)) $$ H
  iintro H
  iapply (wp_st c (g' := gA ι d c) (hsub 1) (hval 1) (fun i hI hi => (if_pos (by
    rw [Finset.mem_union, mem3, mem3] at hI
    rw [mem3] at hi ⊢
    have : (i 1).val < 1024 := (i 1).isLt
    simp at hI hi ⊢
    omega)).symm)) $$ H
  iexact Hk

theorem wp_sendA {dst : Dev nD} (h : Fin 3) (j : Fin 2) {n : ℕ} {h0 h1 : Fin 4} {k : PUnit → KP F α} (hd : dst = dn d c) (hn : n = sp (.a d h j))
    (e0 : h0 = h.castSucc) (e1 : h1 = h.succ) :
    iprop(St ι K n c ∗ Own c (Ma d) (rA h0 j).set (gA ι d c)) ⊢ iprop((St ι K (n + 1) c -∗ WP c (k ⟨⟩) Q) -∗ WP c (sendAP dst d h0 h1 j >>= k) Q) := by
  subst hd hn e0 e1
  rw [← payS_a]
  exact wp_send ι K c (.a d h j)

theorem wp_hop (h : Fin 3) (j : Fin 2) {n : ℕ} {h0 h1 : Fin 4} {k : PUnit → KP F α} (hn : n = wp' (.a d h j))
    (e0 : h0 = h.castSucc) (e1 : h1 = h.succ) :
    St ι K n c ⊢ iprop((iprop(St ι K (n + 1) c ∗ Own c (Ma d) (rA h1 j).set (gA ι d c)) -∗ WP c (k ⟨⟩) Q)
      -∗ WP c (hopAP d h0 h1 j (prA ι c d h1 0) (prA ι c d h1 1) >>= k) Q) := by
  subst hn e0 e1
  unfold hopAP
  simp only [bind_assoc]
  iintro H Hk
  iapply (wp_wait ι K c (.a d h j)) $$ H
  iintro ⟨H, Hw⟩
  ihave Hw := (Entails.of_eq (payR_a ι d c h j)) $$ Hw
  have hsub (r : Fin 2) : (rC h.succ r j).set ⊆ (rA h.succ j).set := fun i hi => by
    have h := mem3.mp hi
    have := r.isLt
    rw [mem3]
    simp at h ⊢
    omega
  have hstep (r : Fin 2) (i : S4x1024x256.Idx) (hi : i ∈ (rC h.succ r j).set) :
      gA ι d c i = cut16 (FloatOps.addf (ext16 (gAL ι d c i)) (prA ι c d h.succ r (ix2 (lo (i 1)) (i 2)))) := by
    have hi := mem3.mp hi
    have := r.isLt
    simp at hi
    refine Eq.trans ?_ (congrArg (fun y => cut16 (FloatOps.addf (ext16 (gAL ι d c i)) y)) (pA_eq ι c d (h := h.succ) (r := r) (i := i 1) (l := i 2) (by omega)))
    unfold gA gAL
    have e : (i 0).val = h.val + 1 := by omega
    rw [e]
    refine (SA_succ ι c d h _ _).trans ?_
    rfl
  iapply (wp_acc c d (g' := fun i => if i ∈ (rC h.succ 0 j).set then gA ι d c i else gAL ι d c i) (hsub 0)
    (fun i hi => (if_pos hi).trans (hstep 0 i hi)) (fun i _ hi => if_neg hi)) $$ Hw
  iintro Hw
  iapply (wp_acc c d (g' := gA ι d c) (hsub 1)
    (fun i hi => (hstep 1 i hi).trans (congrArg (fun y => cut16 (FloatOps.addf (ext16 y) _)) (if_neg (fun h0 => by
      have h0 := mem3.mp h0; have hi := mem3.mp hi; simp at h0 hi; omega)).symm))
    (fun i hI hi => (if_pos (by
      rw [mem3] at hi hI ⊢
      simp at hI hi ⊢
      omega)).symm)) $$ Hw
  iintro Hw
  iapply Hk
  isplitl [H]; · iexact H
  iexact Hw

/-! ## The pushes -/

theorem ci_bit (d : Bool) (c : Dev nD) (t : Fin 4) (i : S2048x1536.Idx) (hi : i ∈ (rPc d c t).set) :
    (i 0).val / 512 = (ci d c t).val ∧ sd (i 1) = d ∧ (i 0).val = 512 * (ci d c t).val + (i 0).val % 512
      ∧ (i 1).val = 768 * (bit d).val + (i 1).val % 768 := by
  have h := mem2.mp hi
  unfold sd
  cases d <;> simp [bit] at h ⊢ <;> omega

theorem gS_eq (t : Fin 4) (q : (rPc d c t).shape.Idx) : gS ι c ((rPc d c t).emb q) = mmV (xB ι c (kP d c t)) (wV ι c d) q := by
  have h := ci_bit d c t _ (emb_mem (rPc d c t) q)
  have e0 : 512 * (ci d c t).val + (q 0).val = _ := emb_at (rPc d c t) q 0 rfl rfl
  have e1 : 768 * (bit d).val + (q 1).val = _ := emb_at (rPc d c t) q 1 rfl rfl
  have : (q 0).val < 512 := (q 0).isLt
  have : (q 1).val < 768 := (q 1).isLt
  unfold gS snd
  rw [h.2.1, show (⟨4 * ((c.val / 4 + 1) % 2) + (qf ((rPc d c t).emb q 0)).val, _⟩ : Fin 8) = kP d c t from
    Fin.ext (congrArg (4 * ((c.val / 4 + 1) % 2) + ·) h.1)]
  refine congrArg _ (funext fun x => ?_)
  fin_cases x
  · exact Fin.ext (show ((rPc d c t).emb q 0).val % 512 = (q 0).val by omega)
  · exact Fin.ext (show ((rPc d c t).emb q 1).val % 768 = (q 1).val by omega)

/-- The operands' copies, once both parts of `w` are there. -/
def Ops1 : sProp (MM F) := iprop(Own c Mx8 Finset.univ (ι.x c) ∗ Own c Mw8 rU.set (ι.w c))

theorem wp_push {dst : Dev nD} (t : Fin 4) {n : ℕ} {o o' o'' ho ho' ho'' hp hw} {k : PUnit → KP F α} (hd : dst = zp c) (hn : n = sp (.p d t))
    (e : o = offX (kP d c t)) (e' : o' = offP d c t) (e'' : o'' = offP d c t) :
    iprop(St ι K n c ∗ Ops1 ι c ∗ ∃ g, Own c Msnd (rPc d c t).set g)
      ⊢ iprop((iprop(St ι K (n + 1) c ∗ Ops1 ι c) -∗ WP c (k ⟨⟩) Q) -∗ WP c (pushP dst d t o o' o'' ho ho' ho'' hp hw >>= k) Q) := by
  subst hd hn e e' e''
  unfold pushP Ops1
  simp only [bind_assoc]
  iintro ⟨H, ⟨Hx, Hw⟩, %g, Hs⟩ Hk
  iapply (wp_ld c (Finset.subset_univ _)) $$ Hx
  iintro Hx
  iapply (wp_ld c (rV_sub d)) $$ Hw
  iintro Hw
  iapply (wp_st c (g' := gS ι c) (Finset.Subset.refl _) (gS_eq ι c d t) (fun i h hi => absurd h hi)) $$ Hs
  iintro Hs
  ihave Hs := (Entails.of_eq (payS_p ι d c t).symm) $$ Hs
  iapply (wp_send ι K c (.p d t)) $$ [H Hs]
  · isplitl [H]; · iexact H
    iexact Hs
  iintro H
  iapply Hk
  isplitl [H]; · iexact H
  isplitl [Hx]; · iexact Hx
  iexact Hw

theorem wp_waitP (t : Fin 4) {n : ℕ} {o ho hw} {k : PUnit → KP F α} (hn : n = wp' (.p d t)) (e : o = offP d c t) :
    St ι K n c ⊢ iprop((iprop(St ι K (n + 1) c ∗ Own c Mz (rPc d c t).set (gS ι (zp c))) -∗ WP c (k ⟨⟩) Q) -∗ WP c (waitPP d t o ho hw >>= k) Q) := by
  subst hn e
  rw [← payR_p]
  exact wp_wait ι K c (.p d t)

/-- The own products, up to a block of rows. -/
def MineTo (n : ℕ) : sProp (MM F) := iprop(∃ g, ⌜∀ i, (i 0).val < 512 * n → g i = gM ι c i⌝ ∗ Own c Mmine Finset.univ g)

theorem gM_eq (b : Fin 4) (q : (rM b).shape.Idx) : gM ι c ((rM b).emb q) = mmU (xB ι c (kM c b)) (wU ι c) q := by
  have e0 : 512 * b.val + (q 0).val = _ := emb_at (rM b) q 0 rfl rfl
  have e1 : (q 1).val = _ := emb_at (rM b) q 1 rfl (Nat.zero_add _)
  have : (q 0).val < 512 := (q 0).isLt
  unfold gM mine
  rw [show qf ((rM b).emb q 0) = b from Fin.ext (show ((rM b).emb q 0).val / 512 = b.val by omega)]
  refine congrArg _ (funext fun x => ?_)
  fin_cases x
  · exact Fin.ext (show ((rM b).emb q 0).val % 512 = (q 0).val by omega)
  · exact Fin.ext e1.symm

theorem wp_mine (b : Fin 4) {o ho} {k : PUnit → KP F α} (e : o = offX (kM c b)) :
    iprop(Ops1 ι c ∗ MineTo ι c b.val) ⊢ iprop((iprop(Ops1 ι c ∗ MineTo ι c (b.val + 1)) -∗ WP c (k ⟨⟩) Q) -∗ WP c (mineP b o ho >>= k) Q) := by
  subst e
  unfold mineP Ops1 MineTo
  simp only [bind_assoc]
  iintro ⟨⟨Hx, Hw⟩, %g, %hg, Hm⟩ Hk
  iapply (wp_ld c (Finset.subset_univ _)) $$ Hx
  iintro Hx
  iapply (wp_ld c (Finset.Subset.refl _)) $$ Hw
  iintro Hw
  iapply (wp_st c (g' := fun i => if i ∈ (rM b).set then gM ι c i else g i) (Finset.subset_univ _)
    (fun q => (if_pos (emb_mem _ q)).trans (gM_eq ι c b q)) (fun i h hi => if_neg hi)) $$ Hm
  iintro Hm
  iapply Hk
  isplitl [Hx Hw]
  · isplitl [Hx]; · iexact Hx
    iexact Hw
  iexists fun i => if i ∈ (rM b).set then gM ι c i else g i
  isplitr
  · ipureintro
    intro i hi
    by_cases h : i ∈ (rM b).set
    · exact if_pos h
    · refine (if_neg h).trans (hg i ?_)
      rw [mem2] at h
      have : (i 1).val < 1536 := (i 1).isLt
      simp at h
      omega
  iexact Hm

theorem mine_start : iprop(∃ g, Own (F := F) c Mmine Finset.univ g) ⊢ MineTo ι c 0 := by
  unfold MineTo
  iintro ⟨%g, H⟩
  iexists g
  isplitr; · ipureintro; intro i hi; exact absurd hi (by omega)
  iexact H
theorem mine_end : MineTo ι c 4 ⊢ Own c Mmine Finset.univ (gM ι c) := by
  unfold MineTo
  iintro ⟨%g, %hg, H⟩
  rw [show g = gM ι c from funext fun i => hg i (by have : (i 0).val < 2048 := (i 0).isLt; omega)]
  iexact H

/-! ## The second ring -/

theorem bv_eq (h : Fin 4) (i : Fin 512) (l : Fin 768) (q : S512x768.Idx) (h0 : (q 0).val = i.val) (h1 : (q 1).val = l.val) :
    FloatOps.addf (ext16 (gM ι c ((rPc d c h).emb q))) (ext8 (gS ι (zp c) ((rPc d c h).emb q))) = bv ι d c h i l := by
  have e0 : 512 * (ci d c h).val + (q 0).val = _ := emb_at (rPc d c h) q 0 rfl rfl
  have e1 : 768 * (bit d).val + (q 1).val = _ := emb_at (rPc d c h) q 1 rfl rfl
  unfold bv gM gS
  congr 2
  · congr 1
    · exact Fin.ext (by rw [← e0, h0])
    · exact Fin.ext (by rw [← e1, h1])
  · congr 1
    · exact Fin.ext (by rw [← e0, h0])
    · exact Fin.ext (by rw [← e1, h1])

theorem wp_iniB {o ho} {k : PUnit → KP F α} (e : o = offP d c 0) :
    iprop(Own c Mmine Finset.univ (gM ι c) ∗ Own c Mz (rPc d c 0).set (gS ι (zp c)) ∗ ∃ g, Own c (Mb d) (rB 0).set g)
      ⊢ iprop((iprop(Own c Mmine Finset.univ (gM ι c) ∗ Own c Mz (rPc d c 0).set (gS ι (zp c)) ∗ Own c (Mb d) (rB 0).set (gB ι d c)) -∗ WP c (k ⟨⟩) Q)
        -∗ WP c (initBP d o ho >>= k) Q) := by
  subst e
  unfold initBP stB
  simp only [bind_assoc]
  iintro ⟨Hm, Hz, %g, Hb⟩ Hk
  iapply (wp_ld c (Finset.subset_univ _)) $$ Hm
  iintro Hm
  iapply (wp_ld c (Finset.Subset.refl _)) $$ Hz
  iintro Hz
  iapply (wp_st c (g' := gB ι d c) (Finset.Subset.refl _) (fun q => by
    refine Eq.trans ?_ (iniB_apply _ _ q).symm
    have e0 : 0 + (q 0).val = _ := emb_at (rB 0) q 0 rfl rfl
    have : (q 0).val < 1 := (q 0).isLt
    refine Eq.trans ?_ (congrArg cut16 (bv_eq ι c d 0 ((rB 0).emb q 1) ((rB 0).emb q 2) (ix2 (q 1) (q 2))
      (emb_at (rB 0) q 1 rfl (Nat.zero_add _)) (emb_at (rB 0) q 2 rfl (Nat.zero_add _))).symm)
    unfold gB
    rw [show ((rB 0).emb q 0).val = 0 by omega]
    rfl) (fun i h hi => absurd h hi)) $$ Hb
  iintro Hb
  iapply Hk
  isplitl [Hm]; · iexact Hm
  isplitl [Hz]; · iexact Hz
  iexact Hb

theorem wp_accB (h : Fin 3) {h1 : Fin 4} {o ho} {k : PUnit → KP F α} (e1 : h1 = h.succ) (e : o = offP d c h1) :
    iprop(Own c Mmine Finset.univ (gM ι c) ∗ Own c Mz (rPc d c h1).set (gS ι (zp c)) ∗ Own c (Mb d) (rB h1).set (gBL ι d c))
      ⊢ iprop((iprop(Own c Mmine Finset.univ (gM ι c) ∗ Own c Mz (rPc d c h1).set (gS ι (zp c)) ∗ Own c (Mb d) (rB h1).set (gB ι d c)) -∗ WP c (k ⟨⟩) Q)
        -∗ WP c (accBP d h1 o ho >>= k) Q) := by
  subst e1 e
  unfold accBP stB
  simp only [bind_assoc]
  iintro ⟨Hm, Hz, Hb⟩ Hk
  iapply (wp_ld c (Finset.Subset.refl _)) $$ Hb
  iintro Hb
  iapply (wp_ld c (Finset.subset_univ _)) $$ Hm
  iintro Hm
  iapply (wp_ld c (Finset.Subset.refl _)) $$ Hz
  iintro Hz
  iapply (wp_st c (g' := gB ι d c) (Finset.Subset.refl _) (fun q => by
    refine Eq.trans ?_ (addB_apply _ _ _ q).symm
    have e0 : h.val + 1 + (q 0).val = _ := emb_at (rB h.succ) q 0 rfl rfl
    have h0 : (q 0).val < 1 := (q 0).isLt
    have hq : (ix3 0 (q 1) (q 2) : S1x512x768.Idx) = q := by
      funext x
      fin_cases x
      · exact Subsingleton.elim (α := Fin 1) _ _
      · rfl
      · rfl
    refine Eq.trans ?_ (congrArg (fun y => cut16 (FloatOps.addf (ext16 (gBL ι d c ((rB h.succ).emb (ix3 0 (q 1) (q 2))))) y))
      (bv_eq ι c d h.succ ((rB h.succ).emb q 1) ((rB h.succ).emb q 2) (ix2 (q 1) (q 2))
      (emb_at (rB h.succ) q 1 rfl (Nat.zero_add _)) (emb_at (rB h.succ) q 2 rfl (Nat.zero_add _))).symm)
    rw [hq]
    unfold gB gBL
    rw [show ((rB h.succ).emb q 0).val = h.val + 1 by omega]
    exact SB_succ ι c d h _ _) (fun i h hi => absurd h hi)) $$ Hb
  iintro Hb
  iapply Hk
  isplitl [Hm]; · iexact Hm
  isplitl [Hz]; · iexact Hz
  iexact Hb

theorem wp_sendB {dst : Dev nD} (h : Fin 3) {n : ℕ} {h0 h1 : Fin 4} {k : PUnit → KP F α} (hd : dst = dn d c) (hn : n = sp (.b d h))
    (e0 : h0 = h.castSucc) (e1 : h1 = h.succ) :
    iprop(St ι K n c ∗ Own c (Mb d) (rB h0).set (gB ι d c)) ⊢ iprop((St ι K (n + 1) c -∗ WP c (k ⟨⟩) Q) -∗ WP c (sendBP dst d h0 h1 >>= k) Q) := by
  subst hd hn e0 e1
  rw [← payS_b]
  exact wp_send ι K c (.b d h)
theorem wp_waitB (h : Fin 3) {n : ℕ} {h0 h1 : Fin 4} {k : PUnit → KP F α} (hn : n = wp' (.b d h)) (e0 : h0 = h.castSucc) (e1 : h1 = h.succ) :
    St ι K n c ⊢ iprop((iprop(St ι K (n + 1) c ∗ Own c (Mb d) (rB h1).set (gBL ι d c)) -∗ WP c (k ⟨⟩) Q) -∗ WP c (waitBP d h0 h1 >>= k) Q) := by
  subst hn e0 e1
  rw [← payR_b]
  exact wp_wait ι K c (.b d h)

/-- A hop of the second ring: what the other group sent, what the ring brings, their sum with the own part, sent on. -/
theorem wp_stepB {dst : Dev nD} (h : Fin 3) (h' : Fin 3) {n : ℕ} {h0 h1 h2 : Fin 4} {o ho hw o' ho'} {k : PUnit → KP F α} (hd : dst = dn d c)
    (e0 : h0 = h.castSucc) (e1 : h1 = h.succ) (e1' : h1 = h'.castSucc) (e2 : h2 = h'.succ) (e : o = offP d c h1) (e' : o' = offP d c h1)
    (hn : n = wp' (.p d h1)) (hn' : n + 1 = wp' (.b d h)) (hn'' : n + 1 + 1 = sp (.b d h')) :
    iprop(St ι K n c ∗ Own c Mmine Finset.univ (gM ι c))
      ⊢ iprop((iprop(St ι K (n + 3) c ∗ Own c Mmine Finset.univ (gM ι c) ∗ Own c Mz (rPc d c h1).set (gS ι (zp c))) -∗ WP c (k ⟨⟩) Q)
        -∗ WP c (waitPP d h1 o ho hw >>= fun _ => waitBP d h0 h1 >>= fun _ => accBP d h1 o' ho' >>= fun _ => sendBP dst d h1 h2 >>= k) Q) := by
  iintro ⟨H, Hm⟩ Hk
  iapply (wp_waitP ι K c d h1 hn e) $$ H
  iintro ⟨H, Hz⟩
  iapply (wp_waitB ι K c d h hn' e0 e1) $$ H
  iintro ⟨H, Hb⟩
  iapply (wp_accB ι c d h e1 e') $$ [Hm Hz Hb]
  · isplitl [Hm]; · iexact Hm
    isplitl [Hz]; · iexact Hz
    iexact Hb
  iintro ⟨Hm, Hz, Hb⟩
  iapply (wp_sendB ι K c d h' hd hn'' e1' e2) $$ [H Hb]
  · isplitl [H]; · iexact H
    iexact Hb
  iintro H
  iapply Hk
  isplitl [H]; · iexact H
  isplitl [Hm]; · iexact Hm
  iexact Hz

/-! ## The last exchange -/

theorem wp_sendZ {dst : Dev nD} (j : Fin 2) {n : ℕ} {o ho hw} {k : PUnit → KP F α} (hd : dst = zp c) (hn : n = sp (.z d j)) (e : o = offZ c j) :
    iprop(St ι K n c ∗ Own c (Ma d) (rA 3 j).set (gA ι d c))
      ⊢ iprop((iprop(St ι K (n + 1) c ∗ Own c (Ma d) (rK c j).set (gA ι d c)) -∗ WP c (k ⟨⟩) Q) -∗ WP c (sendZP dst d j o ho hw >>= k) Q) := by
  subst hd hn e
  rw [last_split, ← payS_z]
  iintro ⟨H, Hs, Hr⟩ Hk
  iapply (wp_send ι K c (.z d j)) $$ [H Hs]
  · isplitl [H]; · iexact H
    iexact Hs
  iintro H
  iapply Hk
  isplitl [H]; · iexact H
  iexact Hr
theorem wp_waitZ (j : Fin 2) {n : ℕ} {o ho hw} {k : PUnit → KP F α} (hn : n = wp' (.z d j)) (e : o = offZ c j) :
    St ι K n c ⊢ iprop((iprop(St ι K (n + 1) c ∗ Own c (Mza d) (rZ j).set (gZ ι d c)) -∗ WP c (k ⟨⟩) Q) -∗ WP c (waitZP d j o ho hw >>= k) Q) := by
  subst hn e
  rw [← payR_z]
  exact wp_wait ι K c (.z d j)

/-! ## The results -/

theorem wp_sld {m : Memref sig .tc .smem S1 .f32} {g : S1.Idx → Elt F .f32} {k : F .f32 → KP F α} :
    Own c m Finset.univ g ⊢ iprop((Own c m Finset.univ g -∗ WP c (k (g ((Rect.unit (s := S1) ![0] S1.size inb_S1_S1_0).point numel1_S1))) Q)
      -∗ WP c (smemLoad m (Rect.unit (s := S1) ![0] S1.size inb_S1_S1_0) numel1_S1 rfl >>= k) Q) := by
  unfold Own
  have h := wp_smemLoadElt (defs := defs₀ (F := F)) 𝒱₀ (c : Thread nD τ) none Set.univ (Γ := .empty) (m := m) (r := Rect.unit (s := S1) ![0] S1.size inb_S1_S1_0)
    (hw := View.loads_smem_one rfl numel1_S1) (x := Shape.Idx.first (numel1_S1.symm ▸ Nat.one_pos)) (k := k) (Q := Q) (q := fullShare) (f := m.view.rep g)
    (S := m.view.setOn Finset.univ) (by rw [show (m.access (Rect.unit (s := S1) ![0] S1.size inb_S1_S1_0)).set = m.view.setOn _ from View.set_slice _ _]; exact Finset.map_subset_map.mpr (Finset.subset_univ _))
  have hv (x : (Rect.unit (s := S1) ![0] S1.size inb_S1_S1_0).shape.Idx) : (m.access (Rect.unit (s := S1) ![0] S1.size inb_S1_S1_0)).read (Elt F) (m.view.rep g) x
      = g ((Rect.unit (s := S1) ![0] S1.size inb_S1_S1_0).point numel1_S1) := by
    rw [View.read_apply, show (m.access (Rect.unit (s := S1) ![0] S1.size inb_S1_S1_0)).emb x = m.view.emb ((Rect.unit (s := S1) ![0] S1.size inb_S1_S1_0).emb x) from rfl,
      View.rep_emb, cast_cast, cast_eq]
    refine congrArg g (funext fun a => ?_)
    fin_cases a
    exact Subsingleton.elim (α := Fin 1) _ _
  rw [hv] at h
  exact h

/-- The result's buffer, right where `P` holds. -/
def OutOn (P : S512x2048.Idx → Prop) : sProp (MM F) := iprop(∃ g, ⌜∀ i, P i → g i = out ι c i⌝ ∗ Own c Mo Finset.univ g)

theorem wp_stO {r : Rect S512x2048} {h hx} {P : S512x2048.Idx → Prop} {w : r.shape.Idx → F .f32} {k : PUnit → KP F α} (hw : ∀ q, w q = out ι c (r.emb q)) :
    OutOn ι c P ⊢ iprop((OutOn ι c (fun i => P i ∨ i ∈ r.set) -∗ WP c (k ⟨⟩) Q) -∗ WP c (stP Mo r h hx w >>= k) Q) := by
  unfold OutOn
  iintro ⟨%g, %hg, H⟩ Hk
  iapply (wp_st c (g' := fun i => if i ∈ r.set then out ι c i else g i) (Finset.subset_univ _)
    (fun q => (if_pos (emb_mem _ q)).trans (hw q).symm) (fun i _ hi => if_neg hi)) $$ H
  iintro H
  iapply Hk
  iexists fun i => if i ∈ r.set then out ι c i else g i
  isplitr
  · ipureintro
    intro i hi
    by_cases h' : i ∈ r.set
    · exact if_pos h'
    · exact (if_neg h').trans (hg i (hi.resolve_right h'))
  iexact H

theorem wp_outB {h : Fin 4} {o ho} {P : S512x2048.Idx → Prop} {k : PUnit → KP F α} (e : o = offP d c 3) :
    iprop(Own c (Mb d) (rB 3).set (gBL ι d c) ∗ Own c Mmine Finset.univ (gM ι c) ∗ Own c Mz (rPc d c 3).set (gS ι (zp c)) ∗ OutOn ι c P)
      ⊢ iprop((iprop(Own c (Mb d) (rB 3).set (gBL ι d c) ∗ Own c Mmine Finset.univ (gM ι c) ∗ Own c Mz (rPc d c 3).set (gS ι (zp c))
          ∗ OutOn ι c (fun i => P i ∨ i ∈ (rV d).set)) -∗ WP c (k ⟨⟩) Q)
        -∗ WP c (outBP d o ho (scl ι c) >>= k) Q) := by
  subst e
  unfold outBP
  simp only [bind_assoc]
  iintro ⟨Hb, Hm, Hz, Ho⟩ Hk
  iapply (wp_ld c (Finset.Subset.refl _)) $$ Hb
  iintro Hb
  iapply (wp_ld c (Finset.subset_univ _)) $$ Hm
  iintro Hm
  iapply (wp_ld c (Finset.Subset.refl _)) $$ Hz
  iintro Hz
  iapply (wp_stO ι c (fun q => by
    refine (finB_apply _ _ _ _ q).trans ?_
    have e0 : 0 + (q 0).val = _ := emb_at (rV d) q 0 rfl rfl
    have e1 : 512 + 768 * (bit d).val + (q 1).val = _ := emb_at (rV d) q 1 rfl rfl
    have h1 : (q 1).val < 768 := (q 1).isLt
    have hb := (bit d).isLt
    have hd : decide (1280 ≤ ((rV d).emb q 1).val) = d := by
      cases d <;> simp [bit] at e1 ⊢ <;> omega
    unfold out
    rw [dif_neg (by omega), hd]
    unfold outB
    rw [← bv_eq ι c d 3 ((rV d).emb q 0) _ q (by omega) (show (q 1).val = (((rV d).emb q 1).val - 512) % 768 by omega)]
    refine congrArg (fun y => relu (scl ι c) (FloatOps.addf (ext16 y) _)) ?_
    exact SB_eq ι d (up d c) rfl ((emb_at (rB 3) (ix3 0 (q 0) (q 1)) 1 rfl (Nat.zero_add _)).symm.trans ((Nat.zero_add _).symm.trans e0))
      ((emb_at (rB 3) (ix3 0 (q 0) (q 1)) 2 rfl (Nat.zero_add _)).symm.trans (show (q 1).val = (((rV d).emb q 1).val - 512) % 768 by omega)))) $$ Ho
  iintro Ho
  iapply Hk
  isplitl [Hb]; · iexact Hb
  isplitl [Hm]; · iexact Hm
  isplitl [Hz]; · iexact Hz
  iexact Ho

/-- What the last step reads of a direction's first ring. -/
abbrev lastV : Vec F S1x512x256 .bf16 := fun j => gA ι d c ((rY c).emb j)
abbrev lastZ : Vec F S512x256 .bf16 := fun j => gZ ι d c (rZ0.emb j)

theorem wp_last {o ho} {k : (Vec F S1x512x256 .bf16 ×' Vec F S512x256 .bf16) → KP F α} (e : o = offY c) :
    iprop(Own c (Ma d) (rY c).set (gA ι d c) ∗ Own c (Mza d) Finset.univ (gZ ι d c))
      ⊢ iprop((iprop(Own c (Ma d) (rY c).set (gA ι d c) ∗ Own c (Mza d) Finset.univ (gZ ι d c)) -∗ WP c (k ⟨lastV ι c d, lastZ ι c d⟩) Q)
        -∗ WP c (lastA d o ho >>= k) Q) := by
  subst e
  unfold lastA
  simp only [bind_assoc, pure_bind]
  iintro ⟨Ha, Hz⟩ Hk
  iapply (wp_ld c (Finset.Subset.refl _)) $$ Ha
  iintro Ha
  iapply (wp_ld c (Finset.subset_univ _)) $$ Hz
  iintro Hz
  iapply Hk
  isplitl [Ha]; · iexact Ha
  iexact Hz

theorem wp_outA {P : S512x2048.Idx → Prop} {k : PUnit → KP F α} :
    OutOn ι c P ⊢ iprop((OutOn ι c (fun i => P i ∨ i ∈ (rW d).set) -∗ WP c (k ⟨⟩) Q)
        -∗ WP c (outAP d (finA (scl ι c) (lastV ι c d) (lastZ ι c d)) >>= k) Q) := by
  unfold outAP
  refine wp_stO ι c (fun q => ?_)
  refine (finA_apply _ _ _ q).trans ?_
  have e0 : 0 + (q 0).val = _ := emb_at (rW d) q 0 rfl rfl
  have e1 : 256 * (bit d).val + (q 1).val = _ := emb_at (rW d) q 1 rfl rfl
  have h1 : (q 1).val < 256 := (q 1).isLt
  have hb := (bit d).isLt
  have hd : decide (256 ≤ ((rW d).emb q 1).val) = d := by
    cases d <;> simp [bit] at e1 ⊢ <;> omega
  unfold out
  rw [dif_pos (by omega), hd]
  unfold outA
  refine congrArg₂ (fun x y => relu (scl ι c) (FloatOps.addf (ext16 x) (ext16 y))) ?_ ?_
  · exact SA_eq ι d c rfl ((emb_at (rY c) (ix3 0 (q 0) (q 1)) 1 rfl rfl).symm.trans (congrArg (myO c + ·) ((Nat.zero_add _).symm.trans e0)))
      ((emb_at (rY c) (ix3 0 (q 0) (q 1)) 2 rfl (Nat.zero_add _)).symm.trans (show (q 1).val = ((rW d).emb q 1).val % 256 by omega))
  · exact SA_eq ι d (zp c) rfl (congrArg (myO c + ·) ((emb_at rZ0 q 0 rfl (Nat.zero_add _)).symm.trans ((Nat.zero_add _).symm.trans e0)))
      ((emb_at rZ0 q 1 rfl (Nat.zero_add _)).symm.trans (show (q 1).val = ((rW d).emb q 1).val % 256 by omega))

theorem out_start : iprop(∃ g, Own (F := F) c Mo Finset.univ g) ⊢ OutOn ι c (fun _ => False) := by
  unfold OutOn
  iintro ⟨%g, H⟩
  iexists g
  isplitr; · ipureintro; intro i hi; exact hi.elim
  iexact H
theorem out_end : OutOn ι c (fun i => (((False ∨ i ∈ (rV false).set) ∨ i ∈ (rV true).set) ∨ i ∈ (rW false).set) ∨ i ∈ (rW true).set)
    ⊢ Own c Mo Finset.univ (out ι c) := by
  unfold OutOn
  iintro ⟨%g, %hg, H⟩
  rw [show g = out ι c from funext fun i => hg i (by
    show (((False ∨ i ∈ (rV false).set) ∨ i ∈ (rV true).set) ∨ i ∈ (rW false).set) ∨ i ∈ (rW true).set
    rw [mem2, mem2, mem2, mem2]
    have : (i 0).val < 512 := (i 0).isLt
    have : (i 1).val < 2048 := (i 1).isLt
    simp [bit]
    omega)]
  iexact H

theorem wp_scale {k : F .f32 → KP F α} :
    iprop(Own c Msx Finset.univ (ι.sx c) ∗ Own c Msw Finset.univ (ι.sw c))
      ⊢ iprop((iprop(Own c Msx Finset.univ (ι.sx c) ∗ Own c Msw Finset.univ (ι.sw c)) -∗ WP c (k (scl ι c)) Q) -∗ WP c (scaleP >>= k) Q) := by
  unfold scaleP
  simp only [bind_assoc, pure_bind]
  iintro ⟨Hx, Hw⟩ Hk
  iapply (wp_sld c) $$ Hx
  iintro Hx
  iapply (wp_sld c) $$ Hw
  iintro Hw
  iapply Hk
  isplitl [Hx]; · iexact Hx
  iexact Hw

end

end Cert.KernelIdeal.RS
end
-- ==== Proof.KernelIdeal.Seq.lean ====
/-
The run of the kernel's body on one device, from its pieces.
-/
module

public import proofs.«01_k».proof.Proof.KernelIdeal.Body

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices the transfers go to -/

theorem devs_rt : ∀ c : Dev nD, [k0_dev2 c, k0_dev4 c, k0_dev6 c, k0_dev12 c, k0_dev14 c, k0_dev18 c, k0_dev20 c, k0_dev24 c, k0_dev30 c, k0_dev32 c]
    = List.replicate 10 (rt c).val := by decide +kernel
theorem devs_lf : ∀ c : Dev nD, [k0_dev1 c, k0_dev5 c, k0_dev7 c, k0_dev13 c, k0_dev15 c, k0_dev19 c, k0_dev21 c, k0_dev25 c, k0_dev31 c, k0_dev33 c]
    = List.replicate 10 (lf c).val := by decide +kernel
theorem devs_zp : ∀ c : Dev nD, [k0_dev3 c, k0_dev8 c, k0_dev9 c, k0_dev10 c, k0_dev11 c, k0_dev16 c, k0_dev17 c, k0_dev22 c, k0_dev23 c,
    k0_dev26 c, k0_dev27 c, k0_dev28 c, k0_dev29 c] = List.replicate 13 (zp c).val := by decide +kernel

/-- Element `n` of a list of equal device numbers. -/
theorem dev_at {l : List Nat} {m : Nat} {c' : Dev nD} (h : l = List.replicate m c'.val) (n : Nat) {k : Nat} (hk : k < nD) (hn : l[n]? = some k := by rfl) :
    (⟨k, hk⟩ : Dev nD) = c' := by
  subst h
  exact Fin.ext (List.eq_of_mem_replicate (List.mem_of_getElem? hn))

variable (ι : Ins F) (K : Dev nD × Cl → ℕ) (c : Dev nD)

section
variable {α : Type} {Q : α → sProp (MM F)}

/-! ## Runs of pieces -/

/-- A hop of the first ring: both directions, both halves of the columns, each sent on. -/
theorem wp_hops (h h' : Fin 3) {n : ℕ} {h0 h1 h2 : Fin 4} {d1 d2 d3 d4 : Dev nD} {o1 o2 o3 o4 i1 i2 i3 i4} {k : PUnit → KP F α}
    (e0 : h0 = h.castSucc) (e1 : h1 = h.succ) (e1' : h1 = h'.castSucc) (e2 : h2 = h'.succ)
    (hd1 : d1 = rt c) (hd2 : d2 = lf c) (hd3 : d3 = rt c) (hd4 : d4 = lf c)
    (ho1 : o1 = offX (kA false c h1 0)) (ho2 : o2 = offX (kA false c h1 1)) (ho3 : o3 = offX (kA true c h1 0)) (ho4 : o4 = offX (kA true c h1 1))
    (hw : ∀ d j, n + 4 * j.val + 2 * (bit d).val = wp' (.a d h j)) (hs : ∀ d j, n + 4 * j.val + 2 * (bit d).val + 1 = sp (.a d h' j)) :
    iprop(St ι K n c ∗ Ops0 ι c) ⊢ iprop((iprop(St ι K (n + 8) c ∗ Ops0 ι c) -∗ WP c (k ⟨⟩) Q) -∗ WP c
      (partP false o1 i1 >>= fun a => partP false o2 i2 >>= fun b => partP true o3 i3 >>= fun a' => partP true o4 i4 >>= fun b' =>
        hopAP false h0 h1 0 a b >>= fun _ => sendAP d1 false h1 h2 0 >>= fun _ => hopAP true h0 h1 0 a' b' >>= fun _ => sendAP d2 true h1 h2 0 >>= fun _ =>
        hopAP false h0 h1 1 a b >>= fun _ => sendAP d3 false h1 h2 1 >>= fun _ => hopAP true h0 h1 1 a' b' >>= fun _ => sendAP d4 true h1 h2 1 >>= k) Q) := by
  iintro ⟨H, Hp⟩ Hk
  iapply (wp_part ι c _ ho1) $$ Hp
  iintro Hp
  iapply (wp_part ι c _ ho2) $$ Hp
  iintro Hp
  iapply (wp_part ι c _ ho3) $$ Hp
  iintro Hp
  iapply (wp_part ι c _ ho4) $$ Hp
  iintro Hp
  iapply (wp_hop ι K c false h 0 (n := n + 0) (by have := hw false 0; simp [bit] at this; omega) e0 e1) $$ H
  iintro H
  iapply (wp_sendA ι K c false h' 0 hd1 (n := n + 1) (by have := hs false 0; simp [bit] at this; omega) e1' e2) $$ H
  iintro H
  iapply (wp_hop ι K c true h 0 (n := n + 2) (by have := hw true 0; simp [bit] at this; omega) e0 e1) $$ H
  iintro H
  iapply (wp_sendA ι K c true h' 0 hd2 (n := n + 3) (by have := hs true 0; simp [bit] at this; omega) e1' e2) $$ H
  iintro H
  iapply (wp_hop ι K c false h 1 (n := n + 4) (by have := hw false 1; simp [bit] at this; omega) e0 e1) $$ H
  iintro H
  iapply (wp_sendA ι K c false h' 1 hd3 (n := n + 5) (by have := hs false 1; simp [bit] at this; omega) e1' e2) $$ H
  iintro H
  iapply (wp_hop ι K c true h 1 (n := n + 6) (by have := hw true 1; simp [bit] at this; omega) e0 e1) $$ H
  iintro H
  iapply (wp_sendA ι K c true h' 1 hd4 (n := n + 7) (by have := hs true 1; simp [bit] at this; omega) e1' e2) $$ H
  iintro H
  iapply Hk
  isplitl [H]; · iexact H
  iexact Hp

/-- The last hop: the rows of the other group sent to it, the others kept. -/
theorem wp_lastHops {n : ℕ} {d1 d2 d3 d4 : Dev nD} {o1 o2 o3 o4 i1 i2 i3 i4 z1 z2 z3 z4 y1 y2 y3 y4 w1 w2 w3 w4} {k : PUnit → KP F α}
    (hd1 : d1 = zp c) (hd2 : d2 = zp c) (hd3 : d3 = zp c) (hd4 : d4 = zp c)
    (ho1 : o1 = offX (kA false c 3 0)) (ho2 : o2 = offX (kA false c 3 1)) (ho3 : o3 = offX (kA true c 3 0)) (ho4 : o4 = offX (kA true c 3 1))
    (hz1 : z1 = offZ c 0) (hz2 : z2 = offZ c 0) (hz3 : z3 = offZ c 1) (hz4 : z4 = offZ c 1)
    (hw : ∀ d j, n + 4 * j.val + 2 * (bit d).val = wp' (.a d 2 j)) (hs : ∀ d j, n + 4 * j.val + 2 * (bit d).val + 1 = sp (.z d j)) :
    iprop(St ι K n c ∗ Ops0 ι c)
      ⊢ iprop((iprop(St ι K (n + 8) c ∗ Ops0 ι c ∗ Own c (Ma false) (rY c).set (gA ι false c) ∗ Own c (Ma true) (rY c).set (gA ι true c)) -∗ WP c (k ⟨⟩) Q) -∗ WP c
      (partP false o1 i1 >>= fun a => partP false o2 i2 >>= fun b => partP true o3 i3 >>= fun a' => partP true o4 i4 >>= fun b' =>
        hopAP false 2 3 0 a b >>= fun _ => sendZP d1 false 0 z1 y1 w1 >>= fun _ => hopAP true 2 3 0 a' b' >>= fun _ => sendZP d2 true 0 z2 y2 w2 >>= fun _ =>
        hopAP false 2 3 1 a b >>= fun _ => sendZP d3 false 1 z3 y3 w3 >>= fun _ => hopAP true 2 3 1 a' b' >>= fun _ => sendZP d4 true 1 z4 y4 w4 >>= k) Q) := by
  iintro ⟨H, Hp⟩ Hk
  iapply (wp_part ι c _ ho1) $$ Hp
  iintro Hp
  iapply (wp_part ι c _ ho2) $$ Hp
  iintro Hp
  iapply (wp_part ι c _ ho3) $$ Hp
  iintro Hp
  iapply (wp_part ι c _ ho4) $$ Hp
  iintro Hp
  iapply (wp_hop ι K c false 2 0 (h0 := 2) (h1 := 3) (n := n + 0) (by have := hw false 0; simp [bit] at this; omega) rfl rfl) $$ H
  iintro H
  iapply (wp_sendZ ι K c false 0 hd1 (n := n + 1) (by have := hs false 0; simp [bit] at this; omega) hz1) $$ H
  iintro ⟨H, Hk0⟩
  iapply (wp_hop ι K c true 2 0 (h0 := 2) (h1 := 3) (n := n + 2) (by have := hw true 0; simp [bit] at this; omega) rfl rfl) $$ H
  iintro H
  iapply (wp_sendZ ι K c true 0 hd2 (n := n + 3) (by have := hs true 0; simp [bit] at this; omega) hz2) $$ H
  iintro ⟨H, Hk1⟩
  iapply (wp_hop ι K c false 2 1 (h0 := 2) (h1 := 3) (n := n + 4) (by have := hw false 1; simp [bit] at this; omega) rfl rfl) $$ H
  iintro H
  iapply (wp_sendZ ι K c false 1 hd3 (n := n + 5) (by have := hs false 1; simp [bit] at this; omega) hz3) $$ H
  iintro ⟨H, Hk2⟩
  iapply (wp_hop ι K c true 2 1 (h0 := 2) (h1 := 3) (n := n + 6) (by have := hw true 1; simp [bit] at this; omega) rfl rfl) $$ H
  iintro H
  iapply (wp_sendZ ι K c true 1 hd4 (n := n + 7) (by have := hs true 1; simp [bit] at this; omega) hz4) $$ H
  iintro ⟨H, Hk3⟩
  iapply Hk
  isplitl [H]; · iexact H
  isplitl [Hp]; · iexact Hp
  rw [← kept false c (gA ι false c), ← kept true c (gA ι true c)]
  isplitl [Hk0 Hk2]
  · isplitl [Hk0]; · iexact Hk0
    iexact Hk2
  isplitl [Hk1]; · iexact Hk1
  iexact Hk3

/-- Where a push is written before it is sent. -/
def Room (d : Bool) (t : Fin 4) : sProp (MM F) := iprop(∃ g, Own c Msnd (rPc d c t).set g)

theorem wp_pushes (t : Fin 4) {n : ℕ} {d1 d2 : Dev nD} {o1 o2 o3 p1 p2 p3 i1 i2 i3 j1 j2 j3 w1 w2 v1 v2} {k : PUnit → KP F α}
    (hd1 : d1 = zp c) (hd2 : d2 = zp c) (ho1 : o1 = offX (kP false c t)) (ho2 : o2 = offP false c t) (ho3 : o3 = offP false c t)
    (hp1 : p1 = offX (kP true c t)) (hp2 : p2 = offP true c t) (hp3 : p3 = offP true c t) (hs : ∀ d, n + (bit d).val = sp (.p d t)) :
    iprop(St ι K n c ∗ Ops1 ι c ∗ Room (F := F) c false t ∗ Room (F := F) c true t)
      ⊢ iprop((iprop(St ι K (n + 2) c ∗ Ops1 ι c) -∗ WP c (k ⟨⟩) Q)
        -∗ WP c (pushP d1 false t o1 o2 o3 i1 i2 i3 w1 w2 >>= fun _ => pushP d2 true t p1 p2 p3 j1 j2 j3 v1 v2 >>= k) Q) := by
  unfold Room
  iintro ⟨H, Hp, H0, H1⟩ Hk
  iapply (wp_push ι K c false t (n := n + 0) hd1 (by have := hs false; simp [bit] at this; omega) ho1 ho2 ho3) $$ [H Hp H0]
  · isplitl [H]; · iexact H
    isplitl [Hp]; · iexact Hp
    iexact H0
  iintro ⟨H, Hp⟩
  iapply (wp_push ι K c true t (n := n + 1) hd2 (by have := hs true; simp [bit] at this; omega) hp1 hp2 hp3) $$ [H Hp H1]
  · isplitl [H]; · iexact H
    isplitl [Hp]; · iexact Hp
    iexact H1
  iexact Hk

/-- A hop of the second ring, both directions. -/
theorem wp_stepsB (h h' : Fin 3) {n : ℕ} {d1 d2 : Dev nD} {h0 h1 h2 : Fin 4} {o p o' p' i j w v i' j'} {k : PUnit → KP F α}
    (hd1 : d1 = rt c) (hd2 : d2 = lf c) (e0 : h0 = h.castSucc) (e1 : h1 = h.succ) (e1' : h1 = h'.castSucc) (e2 : h2 = h'.succ)
    (ho : o = offP false c h1) (ho' : o' = offP false c h1) (hp : p = offP true c h1) (hp' : p' = offP true c h1)
    (hn : ∀ d, n + 3 * (bit d).val = wp' (.p d h1)) (hn' : ∀ d, n + 3 * (bit d).val + 1 = wp' (.b d h)) (hn'' : ∀ d, n + 3 * (bit d).val + 1 + 1 = sp (.b d h')) :
    iprop(St ι K n c ∗ Own c Mmine Finset.univ (gM ι c))
      ⊢ iprop((iprop(St ι K (n + 6) c ∗ Own c Mmine Finset.univ (gM ι c) ∗ Own c Mz (rPc false c h1).set (gS ι (zp c)) ∗ Own c Mz (rPc true c h1).set (gS ι (zp c))) -∗ WP c (k ⟨⟩) Q)
        -∗ WP c (waitPP false h1 o i w >>= fun _ => waitBP false h0 h1 >>= fun _ => accBP false h1 o' i' >>= fun _ => sendBP d1 false h1 h2 >>= fun _ =>
          waitPP true h1 p j v >>= fun _ => waitBP true h0 h1 >>= fun _ => accBP true h1 p' j' >>= fun _ => sendBP d2 true h1 h2 >>= k) Q) := by
  iintro H Hk
  iapply (wp_stepB ι K c false h h' (n := n + 0) hd1 e0 e1 e1' e2 ho ho' (by have := hn false; simp [bit] at this; omega) (by have := hn' false; simp [bit] at this; omega) (by have := hn'' false; simp [bit] at this; omega)) $$ H
  iintro ⟨H, Hm, Hz0⟩
  iapply (wp_stepB ι K c true h h' (n := n + 3) hd2 e0 e1 e1' e2 hp hp' (by have := hn true; simp [bit] at this; omega) (by have := hn' true; simp [bit] at this; omega) (by have := hn'' true; simp [bit] at this; omega)) $$ [H Hm]
  · isplitl [H]; · iexact H
    iexact Hm
  iintro ⟨H, Hm, Hz1⟩
  iapply Hk
  isplitl [H]; · iexact H
  isplitl [Hm]; · iexact Hm
  isplitl [Hz0]; · iexact Hz0
  iexact Hz1

/-- The start of the second ring, one direction: the other group's part, its sum with the own part, sent. -/
theorem wp_firstB (d : Bool) {n : ℕ} {d1 : Dev nD} {o o' i i' w} {k : PUnit → KP F α}
    (hd : d1 = dn d c) (ho : o = offP d c 0) (ho' : o' = offP d c 0) (hn : n = wp' (.p d 0)) (hn' : n + 1 = sp (.b d 0)) :
    iprop(St ι K n c ∗ Own c Mmine Finset.univ (gM ι c) ∗ ∃ g, Own c (Mb d) (rB 0).set g)
      ⊢ iprop((iprop(St ι K (n + 2) c ∗ Own c Mmine Finset.univ (gM ι c) ∗ Own c Mz (rPc d c 0).set (gS ι (zp c))) -∗ WP c (k ⟨⟩) Q)
        -∗ WP c (waitPP d 0 o i w >>= fun _ => initBP d o' i' >>= fun _ => sendBP d1 d 0 1 >>= k) Q) := by
  iintro ⟨H, Hm, Hb⟩ Hk
  iapply (wp_waitP ι K c d 0 hn ho) $$ H
  iintro ⟨H, Hz⟩
  iapply (wp_iniB ι c d ho') $$ [Hm Hz Hb]
  · isplitl [Hm]; · iexact Hm
    isplitl [Hz]; · iexact Hz
    iexact Hb
  iintro ⟨Hm, Hz, Hb⟩
  iapply (wp_sendB ι K c d 0 hd hn' rfl rfl) $$ [H Hb]
  · isplitl [H]; · iexact H
    iexact Hb
  iintro H
  iapply Hk
  isplitl [H]; · iexact H
  isplitl [Hm]; · iexact Hm
  iexact Hz

end

/-! ## The run -/

/-- What a device holds of its own when the body starts, the cells aside. -/
def Bufs0 : sProp (MM F) :=
  iprop((Own c Mx Finset.univ (ι.x c) ∗ Own c Mw Finset.univ (ι.w c) ∗ Own c Msx Finset.univ (ι.sx c) ∗ Own c Msw Finset.univ (ι.sw c) ∗ (∃ g, Own c Mo Finset.univ g))
    ∗ ((∃ g, Own c Mx8 Finset.univ g) ∗ (∃ g, Own c Mw8 rW0.set g) ∗ (∃ g, Own c Mw8 rU.set g) ∗ (∃ g, Own c Mmine Finset.univ g))
    ∗ ((∃ g, Own c (Ma false) ((rA 0 0).set ∪ (rA 0 1).set) g) ∗ (∃ g, Own c (Ma true) ((rA 0 0).set ∪ (rA 0 1).set) g))
    ∗ ((∃ g, Own c (Mb false) (rB 0).set g) ∗ (∃ g, Own c (Mb true) (rB 0).set g))
    ∗ (bigSep Finset.univ fun t : Fin 4 => iprop(Room (F := F) c false t ∗ Room (F := F) c true t)))

/-- What it holds when the body ends, the cells and the transfers' sources aside. -/
def Bufs1 : sProp (MM F) :=
  iprop((Own c Mx Finset.univ (ι.x c) ∗ Own c Mw Finset.univ (ι.w c) ∗ Own c Msx Finset.univ (ι.sx c) ∗ Own c Msw Finset.univ (ι.sw c) ∗ Own c Mo Finset.univ (out ι c))
    ∗ (Own c Mx8 Finset.univ (ι.x c) ∗ Own c Mw8 rW0.set (ι.w c) ∗ Own c Mw8 rU.set (ι.w c) ∗ Own c Mmine Finset.univ (gM ι c))
    ∗ (Own c (Ma false) (rY c).set (gA ι false c) ∗ Own c (Ma true) (rY c).set (gA ι true c))
    ∗ (Own c (Mza false) Finset.univ (gZ ι false c) ∗ Own c (Mza true) Finset.univ (gZ ι true c))
    ∗ (Own c (Mb false) (rB 3).set (gBL ι false c) ∗ Own c (Mb true) (rB 3).set (gBL ι true c))
    ∗ (bigSep Finset.univ fun t : Fin 4 => iprop(Own c Mz (rPc false c t).set (gS ι (zp c)) ∗ Own c Mz (rPc true c t).set (gS ι (zp c)))))

/-- The cells and tokens a device starts with. -/
def Cells0 (W : Waits sig Unit) : sProp (MM F) :=
  iprop(Rec ι K ∗ owes (c : Thread nD τ) (O₀ c) W
        ∗ (dutyTok ER (barCell (bn 0 c)) 0 0 ∗ dutyTok ER (barCell (bn 1 c)) 0 1 ∗ dutyTok ER (barCell (bn 2 c)) 0 2)
        ∗ (mineOf (F := F) c 0 ∗ mineOf (F := F) c 1 ∗ mineOf (F := F) c 2) ∗ cred (tallyAt (barCell c) () 3) ∗ atPos ER (barCell c) 0 ∅ 0
        ∗ bigSep Finset.univ fun x => fresh (F := F) x c)

theorem fin4 (Φ : Fin 4 → sProp (MM F)) : bigSep Finset.univ Φ = iprop(Φ 0 ∗ Φ 1 ∗ Φ 2 ∗ Φ 3) := by
  rw [bigSep_univ_eq_bigSepL [0, 1, 2, 3] (by decide) (by decide)]
  rfl

theorem wp_done {Q : PUnit → sProp (MM F)} : Q ⟨⟩ ⊢ WP c (pure ⟨⟩ : KP F PUnit) Q := by
  show Q ⟨⟩ ⊢ WP c (.ret ⟨⟩ : KP F PUnit) Q
  unfold WP
  rw [wp_ret]
  iintro H
  imodintro
  iexact H

theorem seq_run (W : Waits sig Unit) :
    iprop(Cells0 ι K c W ∗ Bufs0 ι c) ⊢ WP c (seqP c) fun _ => iprop(St ι K 60 c ∗ semVal (barCell c) 0 ∗ Bufs1 ι c) := by
  unfold Cells0 Bufs0 seqP
  rw [fin4]
  iintro ⟨HC, ⟨Hx, Hw, Hsx, Hsw, Ho⟩, ⟨Hx8, Hw0, Hw1, Hm⟩, ⟨Ha, Ha'⟩, ⟨Hb, Hb'⟩, Hr0, Hr1, Hr2, Hr3⟩
  rw [show (⟨k0_dev1 c, k0_dev1_lt c⟩ : Dev nD) = lf c from dev_at (devs_lf c) 0 _, show (⟨k0_dev2 c, k0_dev2_lt c⟩ : Dev nD) = rt c from dev_at (devs_rt c) 0 _,
    show (⟨k0_dev3 c, k0_dev3_lt c⟩ : Dev nD) = zp c from dev_at (devs_zp c) 0 _]
  iapply (wp_barrier ι K c) $$ HC
  iintro ⟨H, HB⟩
  iapply (wp_copyX ι c) $$ [Hx Hx8]
  · isplitl [Hx]; · iexact Hx
    iexact Hx8
  iintro ⟨Hx, Hx8⟩
  iapply (wp_copyW0 ι c) $$ [Hw Hw0]
  · isplitl [Hw]; · iexact Hw
    iexact Hw0
  iintro ⟨Hw, Hw0⟩
  ihave Hp : Ops0 ι c $$ [Hx8 Hw0]
  · unfold Ops0
    isplitl [Hx8]; · iexact Hx8
    iexact Hw0
  iapply (wp_part ι c _ (off1 c)) $$ Hp
  iintro Hp
  iapply (wp_part ι c _ (off2 c)) $$ Hp
  iintro Hp
  iapply (wp_ini ι c false) $$ Ha
  iintro Ha
  iapply (wp_part ι c _ (off3 c)) $$ Hp
  iintro Hp
  iapply (wp_part ι c _ (off4 c)) $$ Hp
  iintro Hp
  iapply (wp_ini ι c true) $$ Ha'
  iintro Ha'
  ihave Ha := (Entails.of_eq (slab_split false c 0 (gA ι false c))) $$ Ha
  ihave Ha' := (Entails.of_eq (slab_split true c 0 (gA ι true c))) $$ Ha'
  icases Ha with ⟨Ha0, Ha1⟩
  icases Ha' with ⟨Ha0', Ha1'⟩
  iapply (wp_sendA ι K c false 0 0 (n := 0) (dev_at (devs_rt c) 1 _) (by decide) rfl rfl) $$ [H Ha0]
  · isplitl [H]; · iexact H
    iexact Ha0
  iintro H
  iapply (wp_sendA ι K c true 0 0 (n := 1) (dev_at (devs_lf c) 1 _) (by decide) rfl rfl) $$ [H Ha0']
  · isplitl [H]; · iexact H
    iexact Ha0'
  iintro H
  iapply (wp_sendA ι K c false 0 1 (n := 2) (dev_at (devs_rt c) 2 _) (by decide) rfl rfl) $$ [H Ha1]
  · isplitl [H]; · iexact H
    iexact Ha1
  iintro H
  iapply (wp_sendA ι K c true 0 1 (n := 3) (dev_at (devs_lf c) 2 _) (by decide) rfl rfl) $$ [H Ha1']
  · isplitl [H]; · iexact H
    iexact Ha1'
  iintro H
  iapply (wp_copyW1 ι c) $$ [Hw Hw1]
  · isplitl [Hw]; · iexact Hw
    iexact Hw1
  iintro ⟨Hw, Hw1⟩
  unfold Ops0
  icases Hp with ⟨Hx8, Hw0⟩
  ihave Hp : Ops1 ι c $$ [Hx8 Hw1]
  · unfold Ops1
    isplitl [Hx8]; · iexact Hx8
    iexact Hw1
  iapply (wp_pushes ι K c 0 (n := 4) (dev_at (devs_zp c) 1 _) (dev_at (devs_zp c) 2 _) (off5 c 0) (off6 c 0) (off7 c 0) (off8 c 0) (off9 c 0) (off10 c 0) (by decide)) $$ [H Hp Hr0]
  · isplitl [H]; · iexact H
    isplitl [Hp]; · iexact Hp
    iexact Hr0
  iintro ⟨H, Hp⟩
  iapply (wp_pushes ι K c 1 (n := 6) (dev_at (devs_zp c) 3 _) (dev_at (devs_zp c) 4 _) (off5 c 1) (off6 c 1) (off7 c 1) (off8 c 1) (off9 c 1) (off10 c 1) (by decide)) $$ [H Hp Hr1]
  · isplitl [H]; · iexact H
    isplitl [Hp]; · iexact Hp
    iexact Hr1
  iintro ⟨H, Hp⟩
  unfold Ops1
  icases Hp with ⟨Hx8, Hw1⟩
  ihave Hp : Ops0 ι c $$ [Hx8 Hw0]
  · unfold Ops0
    isplitl [Hx8]; · iexact Hx8
    iexact Hw0
  iapply (wp_hops ι K c 0 1 (n := 8) (h0 := 0) (h1 := 1) (h2 := 2) rfl rfl rfl rfl (dev_at (devs_rt c) 3 _) (dev_at (devs_lf c) 3 _) (dev_at (devs_rt c) 4 _) (dev_at (devs_lf c) 4 _)
    (off11 c 0) (off12 c 0) (off13 c 0) (off14 c 0) (by decide) (by decide)) $$ [H Hp]
  · isplitl [H]; · iexact H
    iexact Hp
  iintro ⟨H, Hp⟩
  unfold Ops0
  icases Hp with ⟨Hx8, Hw0⟩
  ihave Hp : Ops1 ι c $$ [Hx8 Hw1]
  · unfold Ops1
    isplitl [Hx8]; · iexact Hx8
    iexact Hw1
  iapply (wp_pushes ι K c 2 (n := 16) (dev_at (devs_zp c) 5 _) (dev_at (devs_zp c) 6 _) (off5 c 2) (off6 c 2) (off7 c 2) (off8 c 2) (off9 c 2) (off10 c 2) (by decide)) $$ [H Hp Hr2]
  · isplitl [H]; · iexact H
    isplitl [Hp]; · iexact Hp
    iexact Hr2
  iintro ⟨H, Hp⟩
  unfold Ops1
  icases Hp with ⟨Hx8, Hw1⟩
  ihave Hp : Ops0 ι c $$ [Hx8 Hw0]
  · unfold Ops0
    isplitl [Hx8]; · iexact Hx8
    iexact Hw0
  iapply (wp_hops ι K c 1 2 (n := 18) (h0 := 1) (h1 := 2) (h2 := 3) rfl rfl rfl rfl (dev_at (devs_rt c) 5 _) (dev_at (devs_lf c) 5 _) (dev_at (devs_rt c) 6 _) (dev_at (devs_lf c) 6 _)
    (off11 c 1) (off12 c 1) (off13 c 1) (off14 c 1) (by decide) (by decide)) $$ [H Hp]
  · isplitl [H]; · iexact H
    iexact Hp
  iintro ⟨H, Hp⟩
  unfold Ops0
  icases Hp with ⟨Hx8, Hw0⟩
  ihave Hp : Ops1 ι c $$ [Hx8 Hw1]
  · unfold Ops1
    isplitl [Hx8]; · iexact Hx8
    iexact Hw1
  iapply (wp_pushes ι K c 3 (n := 26) (dev_at (devs_zp c) 7 _) (dev_at (devs_zp c) 8 _) (off5 c 3) (off6 c 3) (off7 c 3) (off8 c 3) (off9 c 3) (off10 c 3) (by decide)) $$ [H Hp Hr3]
  · isplitl [H]; · iexact H
    isplitl [Hp]; · iexact Hp
    iexact Hr3
  iintro ⟨H, Hp⟩
  ihave Hm := (mine_start ι c) $$ Hm
  iapply (wp_mine ι c 0 (off15 c 0)) $$ [Hp Hm]
  · isplitl [Hp]; · iexact Hp
    iexact Hm
  iintro ⟨Hp, Hm⟩
  iapply (wp_mine ι c 1 (off15 c 1)) $$ [Hp Hm]
  · isplitl [Hp]; · iexact Hp
    iexact Hm
  iintro ⟨Hp, Hm⟩
  iapply (wp_mine ι c 2 (off15 c 2)) $$ [Hp Hm]
  · isplitl [Hp]; · iexact Hp
    iexact Hm
  iintro ⟨Hp, Hm⟩
  iapply (wp_mine ι c 3 (off15 c 3)) $$ [Hp Hm]
  · isplitl [Hp]; · iexact Hp
    iexact Hm
  iintro ⟨Hp, Hm⟩
  ihave Hm := (show MineTo ι c ((3 : Fin 4).val + 1) ⊢ Own c Mmine Finset.univ (gM ι c) from mine_end ι c) $$ Hm
  unfold Ops1
  icases Hp with ⟨Hx8, Hw1⟩
  iapply (wp_firstB ι K c false (n := 28) (dev_at (devs_rt c) 7 _) (off7 c 0) (off16 c) (by decide) (by decide)) $$ [H Hm Hb]
  · isplitl [H]; · iexact H
    isplitl [Hm]; · iexact Hm
    iexact Hb
  iintro ⟨H, Hm, Hz0⟩
  iapply (wp_firstB ι K c true (n := 30) (dev_at (devs_lf c) 7 _) (off10 c 0) (off17 c) (by decide) (by decide)) $$ [H Hm Hb']
  · isplitl [H]; · iexact H
    isplitl [Hm]; · iexact Hm
    iexact Hb'
  iintro ⟨H, Hm, Hz0'⟩
  ihave Hp : Ops0 ι c $$ [Hx8 Hw0]
  · unfold Ops0
    isplitl [Hx8]; · iexact Hx8
    iexact Hw0
  iapply (wp_lastHops ι K c (n := 32) (dev_at (devs_zp c) 9 _) (dev_at (devs_zp c) 10 _) (dev_at (devs_zp c) 11 _) (dev_at (devs_zp c) 12 _)
    (off18 c false) (off19 c false) (off18 c true) (off19 c true) (off20 c) (off20 c) (off21 c) (off21 c) (by decide) (by decide)) $$ [H Hp]
  · isplitl [H]; · iexact H
    iexact Hp
  iintro ⟨H, Hp, Ha, Ha'⟩
  iapply (wp_stepsB ι K c 0 1 (n := 40) (h0 := 0) (h1 := 1) (h2 := 2) (dev_at (devs_rt c) 8 _) (dev_at (devs_lf c) 8 _) rfl rfl rfl rfl
    (off7 c 1) (off6 c 1) (off10 c 1) (off9 c 1) (by decide) (by decide) (by decide)) $$ [H Hm]
  · isplitl [H]; · iexact H
    iexact Hm
  iintro ⟨H, Hm, Hz1, Hz1'⟩
  iapply (wp_stepsB ι K c 1 2 (n := 46) (h0 := 1) (h1 := 2) (h2 := 3) (dev_at (devs_rt c) 9 _) (dev_at (devs_lf c) 9 _) rfl rfl rfl rfl
    (off7 c 2) (off6 c 2) (off10 c 2) (off9 c 2) (by decide) (by decide) (by decide)) $$ [H Hm]
  · isplitl [H]; · iexact H
    iexact Hm
  iintro ⟨H, Hm, Hz2, Hz2'⟩
  iapply (wp_scale ι c) $$ [Hsx Hsw]
  · isplitl [Hsx]; · iexact Hsx
    iexact Hsw
  iintro ⟨Hsx, Hsw⟩
  iapply (wp_waitP ι K c false 3 (n := 52) (by decide) (off7 c 3)) $$ H
  iintro ⟨H, Hz3⟩
  iapply (wp_waitP ι K c true 3 (n := 53) (by decide) (off10 c 3)) $$ H
  iintro ⟨H, Hz3'⟩
  iapply (wp_waitB ι K c false 2 (n := 54) (h0 := 2) (h1 := 3) (by decide) rfl rfl) $$ H
  iintro ⟨H, Hb⟩
  iapply (wp_waitB ι K c true 2 (n := 55) (h0 := 2) (h1 := 3) (by decide) rfl rfl) $$ H
  iintro ⟨H, Hb'⟩
  ihave Ho := (out_start ι c) $$ Ho
  iapply (wp_outB ι c false (h := 0) (off22 c)) $$ [Hb Hm Hz3 Ho]
  · isplitl [Hb]; · iexact Hb
    isplitl [Hm]; · iexact Hm
    isplitl [Hz3]; · iexact Hz3
    iexact Ho
  iintro ⟨Hb, Hm, Hz3, Ho⟩
  iapply (wp_outB ι c true (h := 0) (off23 c)) $$ [Hb' Hm Hz3' Ho]
  · isplitl [Hb']; · iexact Hb'
    isplitl [Hm]; · iexact Hm
    isplitl [Hz3']; · iexact Hz3'
    iexact Ho
  iintro ⟨Hb', Hm, Hz3', Ho⟩
  iapply (wp_waitZ ι K c false 0 (n := 56) (by decide) (off20 c)) $$ H
  iintro ⟨H, Hza0⟩
  iapply (wp_waitZ ι K c true 0 (n := 57) (by decide) (off20 c)) $$ H
  iintro ⟨H, Hza0'⟩
  iapply (wp_waitZ ι K c false 1 (n := 58) (by decide) (off21 c)) $$ H
  iintro ⟨H, Hza1⟩
  iapply (wp_waitZ ι K c true 1 (n := 59) (by decide) (off21 c)) $$ H
  iintro ⟨H, Hza1'⟩
  ihave Hza := (Entails.of_eq (za_join false c (gZ ι false c))) $$ [Hza0 Hza1]
  · isplitl [Hza0]; · iexact Hza0
    iexact Hza1
  ihave Hza' := (Entails.of_eq (za_join true c (gZ ι true c))) $$ [Hza0' Hza1']
  · isplitl [Hza0']; · iexact Hza0'
    iexact Hza1'
  iapply (wp_last ι c false (off24 c)) $$ [Ha Hza]
  · isplitl [Ha]; · iexact Ha
    iexact Hza
  iintro ⟨Ha, Hza⟩
  iapply (wp_last ι c true (off24 c)) $$ [Ha' Hza']
  · isplitl [Ha']; · iexact Ha'
    iexact Hza'
  iintro ⟨Ha', Hza'⟩
  iapply (wp_outA ι c false) $$ Ho
  iintro Ho
  rw [← bind_pure (outAP true _)]
  iapply (wp_outA ι c true) $$ Ho
  iintro Ho
  ihave Ho := (out_end ι c) $$ Ho
  unfold Ops0
  icases Hp with ⟨Hx8, Hw0⟩
  iapply (wp_done c)
  isplitl [H]; · iexact H
  isplitl [HB]; · iexact HB
  unfold Bufs1
  rw [fin4]
  isplitl [Hx Hw Hsx Hsw Ho]
  · isplitl [Hx]; · iexact Hx
    isplitl [Hw]; · iexact Hw
    isplitl [Hsx]; · iexact Hsx
    isplitl [Hsw]; · iexact Hsw
    iexact Ho
  isplitl [Hx8 Hw0 Hw1 Hm]
  · isplitl [Hx8]; · iexact Hx8
    isplitl [Hw0]; · iexact Hw0
    isplitl [Hw1]; · iexact Hw1
    iexact Hm
  isplitl [Ha Ha']
  · isplitl [Ha]; · iexact Ha
    iexact Ha'
  isplitl [Hza Hza']
  · isplitl [Hza]; · iexact Hza
    iexact Hza'
  isplitl [Hb Hb']
  · isplitl [Hb]; · iexact Hb
    iexact Hb'
  isplitl [Hz0 Hz0']
  · isplitl [Hz0]; · iexact Hz0
    iexact Hz0'
  isplitl [Hz1 Hz1']
  · isplitl [Hz1]; · iexact Hz1
    iexact Hz1'
  isplitl [Hz2 Hz2']
  · isplitl [Hz2]; · iexact Hz2
    iexact Hz2'
  isplitl [Hz3]; · iexact Hz3
  iexact Hz3'

end Cert.KernelIdeal.RS
end
-- ==== Proof.KernelIdeal.Split.lean ====
/-
A device's buffers: as the launch gives them, cut into what it keeps and the landing windows it hands to its
neighbours; and put back together from what it has when its transfers are over.
-/
module

public import proofs.«01_k».proof.Proof.KernelIdeal.Seq

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (ι : Ins F) (d : Bool) (c : Dev nD)

/-! ## Lists -/

theorem fin2 (Φ : Fin 2 → sProp (MM F)) : bigSep Finset.univ Φ = iprop(Φ 0 ∗ Φ 1) := by
  rw [bigSep_univ_eq_bigSepL [0, 1] (by decide) (by decide)]; rfl
theorem fin3 (Φ : Fin 3 → sProp (MM F)) : bigSep Finset.univ Φ = iprop(Φ 0 ∗ Φ 1 ∗ Φ 2) := by
  rw [bigSep_univ_eq_bigSepL [0, 1, 2] (by decide) (by decide)]; rfl
theorem two (Φ : Bool → sProp (MM F)) : bigSep Finset.univ Φ = iprop(Φ false ∗ Φ true) := by
  rw [bigSep_univ_eq_bigSepL [false, true] (by decide) (by decide)]; rfl

theorem pair {P P' Q Q' : sProp (MM F)} (h : P ⊢ Q) (h' : P' ⊢ Q') : iprop(P ∗ P') ⊢ iprop(Q ∗ Q') := BIClass.sep_mono h h'

/-- The transfers kind by kind. -/
theorem by_kind (Φ : X → sProp (MM F)) : bigSep Finset.univ Φ
    = iprop((bigSep Finset.univ fun d => bigSep Finset.univ fun h => bigSep Finset.univ fun j => Φ (.a d h j))
        ∗ (bigSep Finset.univ fun d => bigSep Finset.univ fun t => Φ (.p d t))
        ∗ (bigSep Finset.univ fun d => bigSep Finset.univ fun h => Φ (.b d h))
        ∗ (bigSep Finset.univ fun d => bigSep Finset.univ fun j => Φ (.z d j))) := by
  rw [bigSep_univ_equiv X.eqv, bigSep_univ_sum, bigSep_univ_sum, bigSep_univ_sum, bigSep_univ_prod, bigSep_univ_prod, bigSep_univ_prod, bigSep_univ_prod]
  simp only [bigSep_univ_prod]
  rfl

/-! ## The landing windows -/

def win (x : X) : sProp (MM F) := iprop(∃ g, Own c (x.dst c) Finset.univ g)

theorem mine_all : (bigSep Finset.univ fun x => win (F := F) c x) = iprop(mineOf (F := F) c 0 ∗ mineOf (F := F) c 1 ∗ mineOf (F := F) c 2) := by
  rw [bigSep_fiberwise Finset.univ cls fun x => win (F := F) c x, show Finset.univ.image cls = Finset.univ by decide, fin3]
  rfl

theorem win_a (h : Fin 3) (j : Fin 2) (g : S4x1024x256.Idx → Elt F .bf16) : Own c (Ma d) (rA h.succ j).set g ⊢ win c (.a d h j) := by
  unfold win
  rw [← own_window c (g := g) (h := squeezes_S1x1024x128_S1024x128) (hr := fun _ => rfl) (g' := fun k => g ((rA h.succ j).emb (Shape.reshapeEquiv squeezes_S1x1024x128_S1024x128.numel_eq k))) fun k => rfl]
  iintro H
  iexists (fun k => g ((rA h.succ j).emb (Shape.reshapeEquiv squeezes_S1x1024x128_S1024x128.numel_eq k)))
  iexact H
theorem win_b (h : Fin 3) (g : S4x512x768.Idx → Elt F .bf16) : Own c (Mb d) (rB h.succ).set g ⊢ win c (.b d h) := by
  unfold win
  rw [← own_window c (g := g) (h := squeezes_S1x512x768_S512x768) (hr := fun _ => rfl) (g' := fun k => g ((rB h.succ).emb (Shape.reshapeEquiv squeezes_S1x512x768_S512x768.numel_eq k))) fun k => rfl]
  iintro H
  iexists (fun k => g ((rB h.succ).emb (Shape.reshapeEquiv squeezes_S1x512x768_S512x768.numel_eq k)))
  iexact H
theorem win_p (t : Fin 4) (g : S2048x1536.Idx → Elt F .fp8e4m3) : Own c Mz (rPc d c t).set g ⊢ win c (.p d t) := by
  unfold win
  rw [← own_slice c (g := g) (hr := fun _ => rfl)]
  iintro H
  iexists (fun k => g ((rPc d c t).emb k))
  iexact H
theorem win_z (j : Fin 2) (g : S512x256.Idx → Elt F .bf16) : Own c (Mza d) (rZ j).set g ⊢ win c (.z d j) := by
  unfold win
  rw [← own_slice c (g := g) (hr := fun _ => rfl)]
  iintro H
  iexists (fun k => g ((rZ j).emb k))
  iexact H

/-! ## The buffers by slabs -/

theorem ma_slabs (g : S4x1024x256.Idx → Elt F .bf16) :
    Own c (Ma d) Finset.univ g = bigSep Finset.univ fun h : Fin 4 => Own c (Ma d) ((rA h 0).set ∪ (rA h 1).set) g :=
  own_fibres c (fun i => i 0) _ fun i h => by
    rw [Finset.mem_union, mem3, mem3]
    have : (i 0).val < 4 := (i 0).isLt
    have : (i 1).val < 1024 := (i 1).isLt
    have : (i 2).val < 256 := (i 2).isLt
    simp [Fin.ext_iff]
    omega
theorem mb_slabs (g : S4x512x768.Idx → Elt F .bf16) :
    Own c (Mb d) Finset.univ g = bigSep Finset.univ fun h : Fin 4 => Own c (Mb d) (rB h).set g :=
  own_fibres c (fun i => i 0) _ fun i h => by
    rw [mem3]
    have : (i 0).val < 4 := (i 0).isLt
    have : (i 1).val < 512 := (i 1).isLt
    have : (i 2).val < 768 := (i 2).isLt
    simp [Fin.ext_iff]
    omega
theorem big_mem (i : S2048x1536.Idx) (t : Bool × Fin 4) :
    i ∈ (rPc t.1 c t.2).set ↔ ((sd (i 1), hi (sd (i 1)) c (qf (i 0))) : Bool × Fin 4) = t := by
  obtain ⟨d, t⟩ := t
  have h0 : (i 0).val < 2048 := (i 0).isLt
  have h1 : (i 1).val < 1536 := (i 1).isLt
  rw [mem2, Prod.mk.injEq]
  have hs : (768 * (bit d).val ≤ (i 1).val ∧ (i 1).val < 768 * (bit d).val + 768) ↔ sd (i 1) = d := by
    unfold sd; cases d <;> simp [bit] <;> omega
  have hq : (512 * (ci d c t).val ≤ (i 0).val ∧ (i 0).val < 512 * (ci d c t).val + 512) ↔ hi d c (qf (i 0)) = t := by
    rw [← hi_iff, Fin.ext_iff]; unfold qf; simp; omega
  constructor
  · rintro ⟨a, b⟩
    have b' := hs.mp b
    exact ⟨b', by rw [b']; exact hq.mp a⟩
  · rintro ⟨a, b⟩
    rw [a] at b
    exact ⟨hq.mpr b, hs.mpr a⟩
theorem big_parts (m : Memref sig .tc .vmem S2048x1536 .fp8e4m3) (g : S2048x1536.Idx → Elt F .fp8e4m3) :
    Own c m Finset.univ g = iprop((bigSep Finset.univ fun t => Own c m (rPc false c t).set g) ∗ bigSep Finset.univ fun t => Own c m (rPc true c t).set g) := by
  rw [own_fibres c (fun i => ((sd (i 1), hi (sd (i 1)) c (qf (i 0))) : Bool × Fin 4)) (fun t => (rPc t.1 c t.2).set) (big_mem c), bigSep_univ_prod, two]

/-! ## At launch -/

theorem deal_ma : iprop(∃ g, Own (F := F) c (Ma d) Finset.univ g)
    ⊢ iprop((∃ g, Own c (Ma d) ((rA 0 0).set ∪ (rA 0 1).set) g) ∗ bigSep Finset.univ fun h => bigSep Finset.univ fun j => win c (.a d h j)) := by
  iintro ⟨%g, H⟩
  ihave H := (Entails.of_eq ((ma_slabs d c g).trans (fin4 _))) $$ H
  icases H with ⟨H0, H⟩
  isplitl [H0]; · iexists g; iexact H0
  iapply ((show iprop(Own c (Ma d) ((rA 1 0).set ∪ (rA 1 1).set) g ∗ Own c (Ma d) ((rA 2 0).set ∪ (rA 2 1).set) g ∗ Own c (Ma d) ((rA 3 0).set ∪ (rA 3 1).set) g)
      ⊢ bigSep Finset.univ fun h : Fin 3 => Own c (Ma d) ((rA h.succ 0).set ∪ (rA h.succ 1).set) g from Entails.of_eq (fin3 fun h : Fin 3 => Own c (Ma d) ((rA h.succ 0).set ∪ (rA h.succ 1).set) g).symm).trans
    (bigSep_mono fun h _ => (Entails.of_eq (slab_split d c h.succ g)).trans (by
      rw [fin2]
      exact pair (win_a d c h 0 g) (win_a d c h 1 g))))
  iexact H

theorem deal_mb : iprop(∃ g, Own (F := F) c (Mb d) Finset.univ g)
    ⊢ iprop((∃ g, Own c (Mb d) (rB 0).set g) ∗ bigSep Finset.univ fun h => win c (.b d h)) := by
  iintro ⟨%g, H⟩
  ihave H := (Entails.of_eq ((mb_slabs d c g).trans (fin4 _))) $$ H
  icases H with ⟨H0, H⟩
  isplitl [H0]; · iexists g; iexact H0
  iapply ((show iprop(Own c (Mb d) (rB 1).set g ∗ Own c (Mb d) (rB 2).set g ∗ Own c (Mb d) (rB 3).set g)
      ⊢ bigSep Finset.univ fun h : Fin 3 => Own c (Mb d) (rB h.succ).set g from Entails.of_eq (fin3 fun h : Fin 3 => Own c (Mb d) (rB h.succ).set g).symm).trans
    (bigSep_mono fun h _ => win_b d c h g))
  iexact H

theorem deal_mza : iprop(∃ g, Own (F := F) c (Mza d) Finset.univ g) ⊢ bigSep Finset.univ fun j => win c (.z d j) := by
  iintro ⟨%g, H⟩
  ihave H := (Entails.of_eq (za_join d c g).symm) $$ H
  iapply ((pair (win_z d c 0 g) (win_z d c 1 g)).trans (Entails.of_eq (fin2 fun j => win c (.z d j)).symm))
  iexact H

theorem deal_mz : iprop(∃ g, Own (F := F) c Mz Finset.univ g) ⊢ bigSep Finset.univ fun d => bigSep Finset.univ fun t => win c (.p d t) := by
  iintro ⟨%g, H⟩
  ihave H := (Entails.of_eq (big_parts c Mz g)) $$ H
  rw [two]
  iapply (pair (bigSep_mono fun t _ => win_p false c t g) (bigSep_mono fun t _ => win_p true c t g))
  iexact H

theorem deal_snd : iprop(∃ g, Own (F := F) c Msnd Finset.univ g) ⊢ bigSep Finset.univ fun t : Fin 4 => iprop(Room (F := F) c false t ∗ Room (F := F) c true t) := by
  have h (d : Bool) (g : S2048x1536.Idx → Elt F .fp8e4m3) (t : Fin 4) : Own c Msnd (rPc d c t).set g ⊢ Room c d t := by
    unfold Room
    iintro H; iexists g; iexact H
  iintro ⟨%g, H⟩
  ihave H := (Entails.of_eq (big_parts c Msnd g)) $$ H
  rw [bigSep_sep']
  iapply (pair (bigSep_mono fun t _ => h false g t) (bigSep_mono fun t _ => h true g t))
  iexact H

/-- The scratch buffers, whole. -/
def Scr : sProp (MM F) :=
  iprop((∃ g, Own c Mx8 Finset.univ g) ∗ (∃ g, Own c Mw8 Finset.univ g) ∗ (∃ g, Own c (Ma false) Finset.univ g) ∗ (∃ g, Own c (Ma true) Finset.univ g)
    ∗ (∃ g, Own c (Mza false) Finset.univ g) ∗ (∃ g, Own c (Mza true) Finset.univ g) ∗ (∃ g, Own c Msnd Finset.univ g) ∗ (∃ g, Own c Mmine Finset.univ g)
    ∗ (∃ g, Own c Mz Finset.univ g) ∗ (∃ g, Own c (Mb false) Finset.univ g) ∗ (∃ g, Own c (Mb true) Finset.univ g))

/-- The operands and the result's buffer. -/
def Stg (X : S512x2048.Idx → Elt F .f32) : sProp (MM F) :=
  iprop(Own c Mx Finset.univ (ι.x c) ∗ Own c Mw Finset.univ (ι.w c) ∗ Own c Msx Finset.univ (ι.sx c) ∗ Own c Msw Finset.univ (ι.sw c) ∗ Own c Mo Finset.univ X)

theorem deal (X : S512x2048.Idx → Elt F .f32) :
    iprop(Stg ι c X ∗ Scr (F := F) c) ⊢ iprop((mineOf (F := F) c 0 ∗ mineOf (F := F) c 1 ∗ mineOf (F := F) c 2) ∗ Bufs0 ι c) := by
  rw [← mine_all, by_kind]
  simp only [two]
  unfold Stg Scr Bufs0
  iintro ⟨⟨Hx, Hw, Hsx, Hsw, Ho⟩, Hx8, ⟨%gw, Hw8⟩, Ha, Ha', Hza, Hza', Hs, Hm, Hz, Hb, Hb'⟩
  ihave Hw8 := (Entails.of_eq (w_split c gw)) $$ Hw8
  icases Hw8 with ⟨Hw0, Hw1⟩
  ihave Ha := (deal_ma false c) $$ Ha
  icases Ha with ⟨Ha, Wa⟩
  ihave Ha' := (deal_ma true c) $$ Ha'
  icases Ha' with ⟨Ha', Wa'⟩
  ihave Hb := (deal_mb false c) $$ Hb
  icases Hb with ⟨Hb, Wb⟩
  ihave Hb' := (deal_mb true c) $$ Hb'
  icases Hb' with ⟨Hb', Wb'⟩
  ihave Hza := (deal_mza false c) $$ Hza
  ihave Hza' := (deal_mza true c) $$ Hza'
  ihave Hz := ((deal_mz c).trans (Entails.of_eq (two _))) $$ Hz
  ihave Hs := (deal_snd c) $$ Hs
  isplitl [Wa Wa' Hz Wb Wb' Hza Hza']
  · isplitl [Wa Wa']
    · isplitl [Wa]; · iexact Wa
      iexact Wa'
    isplitl [Hz]; · iexact Hz
    isplitl [Wb Wb']
    · isplitl [Wb]; · iexact Wb
      iexact Wb'
    · isplitl [Hza]; · iexact Hza
      iexact Hza'
  isplitl [Hx Hw Hsx Hsw Ho]
  · isplitl [Hx]; · iexact Hx
    isplitl [Hw]; · iexact Hw
    isplitl [Hsx]; · iexact Hsx
    isplitl [Hsw]; · iexact Hsw
    iexists X; iexact Ho
  isplitl [Hx8 Hw0 Hw1 Hm]
  · isplitl [Hx8]; · iexact Hx8
    isplitl [Hw0]; · iexists gw; iexact Hw0
    isplitl [Hw1]; · iexists gw; iexact Hw1
    iexact Hm
  isplitl [Ha Ha']
  · isplitl [Ha]; · iexact Ha
    iexact Ha'
  isplitl [Hb Hb']
  · isplitl [Hb]; · iexact Hb
    iexact Hb'
  iexact Hs

/-! ## At the end -/

theorem back_ma : iprop((bigSep Finset.univ fun h => bigSep Finset.univ fun j => payS ι (.a d h j) c) ∗ (bigSep Finset.univ fun j => payS ι (.z d j) c)
      ∗ Own c (Ma d) (rY c).set (gA ι d c)) ⊢ iprop(∃ g, Own c (Ma d) Finset.univ g) := by
  have h1 : (bigSep Finset.univ fun h => bigSep Finset.univ fun j => payS ι (.a d h j) c)
      = iprop(Own c (Ma d) ((rA 0 0).set ∪ (rA 0 1).set) (gA ι d c) ∗ Own c (Ma d) ((rA 1 0).set ∪ (rA 1 1).set) (gA ι d c) ∗ Own c (Ma d) ((rA 2 0).set ∪ (rA 2 1).set) (gA ι d c)) := by
    refine Eq.trans (bigSep_congr fun h _ => ?_) (fin3 fun h : Fin 3 => Own c (Ma d) ((rA h.castSucc 0).set ∪ (rA h.castSucc 1).set) (gA ι d c))
    rw [slab_split, fin2, payS_a, payS_a]
  have h2 : iprop((bigSep Finset.univ fun j => payS ι (.z d j) c) ∗ Own c (Ma d) (rY c).set (gA ι d c)) ⊢ Own c (Ma d) ((rA 3 0).set ∪ (rA 3 1).set) (gA ι d c) := by
    rw [slab_split, fin2, payS_z, payS_z, last_split d c 0, last_split d c 1, ← kept]
    iintro ⟨⟨H1, H2⟩, H3, H4⟩
    isplitl [H1 H3]
    · isplitl [H1]; · iexact H1
      iexact H3
    · isplitl [H2]; · iexact H2
      iexact H4
  rw [h1]
  iintro ⟨⟨H0, H1, H2⟩, HZ, HY⟩
  ihave H3 := h2 $$ [HZ HY]
  · isplitl [HZ]; · iexact HZ
    iexact HY
  iexists (gA ι d c)
  rw [ma_slabs, fin4]
  isplitl [H0]; · iexact H0
  isplitl [H1]; · iexact H1
  isplitl [H2]; · iexact H2
  iexact H3

theorem back_mb : iprop((bigSep Finset.univ fun h => payS ι (.b d h) c) ∗ Own c (Mb d) (rB 3).set (gBL ι d c)) ⊢ iprop(∃ g, Own c (Mb d) Finset.univ g) := by
  have hg (h : Fin 3) : payS ι (.b d h) c = Own c (Mb d) (rB h.castSucc).set (fun i => if (i 0).val = 3 then gBL ι d c i else gB ι d c i) := by
    rw [payS_b]
    refine own_congr c fun i hi => (if_neg ?_).symm
    have h0 := (mem3.mp hi).1.2
    have : h.castSucc.val < 3 := h.isLt
    simp at h0; omega
  have hl : Own c (Mb d) (rB 3).set (gBL ι d c) = Own c (Mb d) (rB 3).set (fun i => if (i 0).val = 3 then gBL ι d c i else gB ι d c i) := by
    refine own_congr c fun i hi => (if_pos ?_).symm
    have h0 := (mem3.mp hi).1
    simp at h0; omega
  rw [fin3, hg, hg, hg, hl]
  iintro ⟨⟨H0, H1, H2⟩, H3⟩
  iexists (fun i => if (i 0).val = 3 then gBL ι d c i else gB ι d c i)
  rw [mb_slabs, fin4]
  isplitl [H0]; · iexact H0
  isplitl [H1]; · iexact H1
  isplitl [H2]; · iexact H2
  iexact H3

theorem back_snd : iprop((bigSep Finset.univ fun t => payS ι (.p false t) c) ∗ bigSep Finset.univ fun t => payS ι (.p true t) c) ⊢ iprop(∃ g, Own c Msnd Finset.univ g) := by
  rw [bigSep_congr (fun t _ => payS_p ι false c t), bigSep_congr (fun t _ => payS_p ι true c t), ← big_parts]
  iintro H; iexists (gS ι c); iexact H

theorem back : iprop((bigSep Finset.univ fun x => payS ι x c) ∗ Bufs1 ι c) ⊢ iprop(Stg ι c (out ι c) ∗ Scr (F := F) c) := by
  rw [by_kind]
  simp only [two]
  unfold Stg Scr Bufs1
  rw [bigSep_sep', ← big_parts]
  iintro ⟨⟨⟨Pa, Pa'⟩, Pp, ⟨Pb, Pb'⟩, Pz, Pz'⟩, Hst, ⟨Hx8, Hw0, Hw1, Hm⟩, ⟨Ha, Ha'⟩, ⟨Hza, Hza'⟩, ⟨Hb, Hb'⟩, Hz⟩
  isplitl [Hst]; · iexact Hst
  isplitl [Hx8]; · iexists (ι.x c); iexact Hx8
  isplitl [Hw0 Hw1]
  · iexists (ι.w c); rw [w_split]
    isplitl [Hw0]; · iexact Hw0
    iexact Hw1
  isplitl [Pa Pz Ha]
  · iapply (back_ma ι false c)
    isplitl [Pa]; · iexact Pa
    isplitl [Pz]; · iexact Pz
    iexact Ha
  isplitl [Pa' Pz' Ha']
  · iapply (back_ma ι true c)
    isplitl [Pa']; · iexact Pa'
    isplitl [Pz']; · iexact Pz'
    iexact Ha'
  isplitl [Hza]; · iexists (gZ ι false c); iexact Hza
  isplitl [Hza']; · iexists (gZ ι true c); iexact Hza'
  isplitl [Pp]; · iapply (back_snd ι c); iexact Pp
  isplitl [Hm]; · iexists (gM ι c); iexact Hm
  isplitl [Hz]; · iexists (gS ι (zp c)); iexact Hz
  isplitl [Pb Hb]
  · iapply (back_mb ι false c)
    isplitl [Pb]; · iexact Pb
    iexact Hb
  · iapply (back_mb ι true c)
    isplitl [Pb']; · iexact Pb'
    iexact Hb'

end Cert.KernelIdeal.RS
end
-- ==== Proof.KernelIdeal.Launch.lean ====
/-
The launch: each device's cells opened, the tokens dealt to the devices that pay with them, the credits each device is
owed, and the run of the eight devices from any memory to the result of each.
-/
module

public import proofs.«01_k».proof.Proof.KernelIdeal.Split
public import Idealize.ShloMosaic.Lib.Pipeline.Launch
public import Idealize.ShloMosaic.Lib.Pipeline.Kit

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The operands a launch memory holds. -/
def ins : Ins F where
  x c := (win0_0.blk (0 : Fin 1)).view.read (Elt F) (m ((c : Thread nD τ).loc main_arg0))
  w c := (win0_1.blk (0 : Fin 1)).view.read (Elt F) (m ((c : Thread nD τ).loc main_arg1))
  sx c := (win0_2.blk (0 : Fin 1)).view.read (Elt F) (m ((c : Thread nD τ).loc main_arg2))
  sw c := (win0_3.blk (0 : Fin 1)).view.read (Elt F) (m ((c : Thread nD τ).loc main_arg3))

/-! ## The cells, listed -/

/-- The semaphores the transfers count on. -/
abbrev osem (k : Bool × X) : SemLoc sig := csem (some k)

theorem opt (Φ : Cl → sProp (MM F)) : bigSep Finset.univ Φ = iprop(Φ none ∗ bigSep Finset.univ fun k => Φ (some k)) := by
  rw [bigSep_univ_at _ none, show (Finset.univ.erase none : Finset Cl) = Finset.univ.map Function.Embedding.some by
    ext k; cases k <;> simp, bigSep_map]
  rfl
theorem ends (Φ : Bool × X → sProp (MM F)) : bigSep Finset.univ Φ = iprop((bigSep Finset.univ fun x => Φ (false, x)) ∗ bigSep Finset.univ fun x => Φ (true, x)) := by
  rw [bigSep_univ_prod, two]

theorem kcell_injective : Function.Injective (kcell : Dev nD × Cl → GSem nD τ sig) := by
  rintro ⟨c, k⟩ ⟨c', k'⟩ h
  have h1 : c = c' := congrArg (fun g : GSem nD τ sig => g.1.1) h
  have h2 : k = k' := csem_injective (congrArg Prod.snd h)
  rw [h1, h2]
def cellSet : Finset (GSem nD τ sig) := Finset.univ.map ⟨kcell, kcell_injective⟩

/-- A device's own cells' duties: one of each neighbour at its barrier's, one at each other. -/
abbrev Du : Type := Fin 3 ⊕ (Bool × X)
def duty (ck : Dev nD × Du) : GSem nD τ sig × ℕ × Fin 3 := match ck.2 with
  | .inl d => (barCell ck.1, 0, d) | .inr k => (kcell (ck.1, some k), 0, 0)
theorem duty_injective : Function.Injective duty := by
  have hb (c c' : Dev nD) (k : Bool × X) : barCell c ≠ kcell (c', some k) := fun h => by
    have := csem_injective (a₁ := none) (a₂ := some k) (congrArg Prod.snd h)
    cases this
  rintro ⟨c, k | k⟩ ⟨c', k' | k'⟩ h
  · have h1 : c = c' := congrArg (fun g : GSem nD τ sig × ℕ × Fin 3 => g.1.1.1) h
    have h2 : k = k' := congrArg (fun g : GSem nD τ sig × ℕ × Fin 3 => g.2.2) h
    rw [h1, h2]
  · exact absurd (congrArg Prod.fst h) (hb _ _ _)
  · exact absurd (congrArg Prod.fst h).symm (hb _ _ _)
  · have h1 := kcell_injective (congrArg Prod.fst h)
    have h2 : c = c' := (Prod.mk.inj h1).1
    have h3 : k = k' := Option.some.inj (Prod.mk.inj h1).2
    rw [h2, h3]
def dutySet : Finset (GSem nD τ sig × ℕ × Fin 3) := Finset.univ.map ⟨duty, duty_injective⟩

def u₀ : UU := (initOf (Pipeline.cells cfgs cellOf_inj) (Pipeline.launchToks cfgs cellOf_inj), initOf cellSet dutySet)

/-- The duty tokens of a device's own cells, and those of the duties it pays. -/
def toks (c : Dev nD) : sProp (MM F) :=
  iprop((bigSep Finset.univ fun d => dutyTok ER (barCell c) 0 d) ∗ (bigSep Finset.univ fun x => dutyTok ER (sndCell x c) 0 0)
    ∗ bigSep Finset.univ fun x => dutyTok ER (rcvCell x c) 0 0)
def payToks (c : Dev nD) : sProp (MM F) :=
  iprop((bigSep Finset.univ fun d => dutyTok ER (barCell (bn d c)) 0 d) ∗ (bigSep Finset.univ fun x => dutyTok ER (sndCell x c) 0 0)
    ∗ bigSep Finset.univ fun x => dutyTok ER (rcvCell x (x.tg c)) 0 0)

def nbE (d : Fin 3) : Dev nD ≃ Dev nD := ⟨bn d, nb d, nb_bn d, bn_nb d⟩
def tgE (x : X) : Dev nD ≃ Dev nD := ⟨x.tg, x.frm, x.frm_tg, x.tg_frm⟩

theorem swap {A B : Type} [Fintype A] [Fintype B] (Φ : A → B → sProp (MM F)) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

theorem toks_around : (bigSep Finset.univ fun c => toks (F := F) c) = bigSep Finset.univ fun c => payToks (F := F) c := by
  unfold toks payToks
  rw [bigSep_sep', bigSep_sep', bigSep_sep', bigSep_sep']
  have h1 : (bigSep Finset.univ fun c : Dev nD => bigSep Finset.univ fun d => (dutyTok ER (barCell c) 0 d : sProp (MM F)))
      = bigSep Finset.univ fun c : Dev nD => bigSep Finset.univ fun d => dutyTok ER (barCell (bn d c)) 0 d := by
    rw [swap, bigSep_congr (fun d _ => bigSep_univ_equiv (nbE d) fun c => (dutyTok ER (barCell c) 0 d : sProp (MM F))), swap]
    rfl
  have h2 : (bigSep Finset.univ fun c : Dev nD => bigSep Finset.univ fun x : X => (dutyTok ER (rcvCell x c) 0 0 : sProp (MM F)))
      = bigSep Finset.univ fun c : Dev nD => bigSep Finset.univ fun x : X => dutyTok ER (rcvCell x (x.tg c)) 0 0 := by
    rw [swap, bigSep_congr (fun x _ => bigSep_univ_equiv (tgE x) fun c => (dutyTok ER (rcvCell x c) 0 0 : sProp (MM F))), swap]
    rfl
  rw [h1, h2]

/-! ## Opening the cells -/

section
variable (ι : Ins F)

/-- A device's share of the launch's ghost state. -/
def G (c : Dev nD) : sProp (MM F) :=
  iprop((bigSep Finset.univ fun k : Cl => roundState ER (Rd ι) (kcell (c, k)) 0)
    ∗ (bigSep Finset.univ fun k : Cl => iprop(atPos ER (kcell (c, k)) 0 ∅ 0 ∗ reached ER (kcell (c, k)) 0)) ∗ toks c)

theorem fund_cells : BI.own (ER (initOf cellSet dutySet)) ⊢ (|==> bigSep Finset.univ (G ι) : sProp (MM F)) := by
  have hX (Φ : GSem nD τ sig → sProp (MM F)) : bigSep cellSet Φ = bigSep Finset.univ fun c : Dev nD => bigSep Finset.univ fun k : Cl => Φ (kcell (c, k)) := by
    unfold cellSet; rw [bigSep_map, bigSep_univ_prod]; rfl
  have hT : bigSep dutySet (fun x => (dutyTok ER x.1 x.2.1 x.2.2 : sProp (MM F))) = bigSep Finset.univ fun c : Dev nD => toks c := by
    unfold dutySet; rw [bigSep_map, bigSep_univ_prod]
    exact bigSep_congr fun c _ => by unfold toks; rw [bigSep_univ_sum, ends]; rfl
  iintro HX
  imod (Rounds.fund ER (Rd ι) cellSet dutySet) $$ HX with ⟨Hst, Hr, Hat, Htok⟩
  imodintro
  ihave Hst' := (Entails.of_eq (hX fun g => roundState ER (Rd ι) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp (MM F)) = semVal (barCell c) 0 := by
  unfold unscopedSems0; rw [bigSep_eq_bigSepL_of_eq [SemLoc.reg barS] (by decide) (by decide)]; rfl

theorem vals (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp (MM F)) := by
  rw [unscoped_eq, opt]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G ι c)
      ⊢ |={Set.univ}=> iprop((bigSep Finset.univ fun k => iprop(∃ κ : ℕ, cellInv ER (Rd ι) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (vals (F := F) c) $$ [Hos Hus]
  · isplitl [Hos] <;> iassumption
  imod (show iprop((bigSep Finset.univ fun k : Cl => semVal (kcell (c, k)) 0) ∗ bigSep Finset.univ fun k : Cl => roundState ER (Rd ι) (kcell (c, k)) 0)
      ⊢ (|={Set.univ}=> bigSep Finset.univ fun k => iprop(∃ κ : ℕ, cellInv ER (Rd ι) κ (kcell (c, k))) : sProp (MM F)) from by
        rw [← bigSep_sep']
        exact (bigSep_mono fun k _ => (Rounds.body_intro ER (Rd ι) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def recs (K : Dev nD × Cl → ℕ) : sProp (MM F) :=
  iprop((bigSep Finset.univ fun ck => cellInv ER (Rd ι) (K ck) (kcell ck)) ∗ bigSep Finset.univ fun ck => reached ER (kcell ck) 0)
instance recs_persistent (K : Dev nD × Cl → ℕ) : BI.Persistent (recs ι K) := by unfold recs; infer_instance

/-- What a device keeps: its positions at its cells and the tokens it pays with. -/
def linear (c : Dev nD) : sProp (MM F) :=
  iprop((bigSep Finset.univ fun k : Cl => atPos ER (kcell (c, k)) 0 ∅ 0) ∗ payToks c)
def G' (c : Dev nD) : sProp (MM F) := iprop(∃ K, recs ι K ∗ linear c)

theorem with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd ι) κ (kcell (c, k))))
          ∗ (bigSep Finset.univ fun k => iprop(atPos ER (kcell (c, k)) 0 ∅ 0 ∗ reached ER (kcell (c, k)) 0)) ∗ toks c) : sProp (MM F))
      ⊢ bigSep Finset.univ (G' ι) := by
  rw [bigSep_sep', bigSep_sep', ← bigSep_univ_prod (fun ck : Dev nD × Cl => iprop(∃ κ : ℕ, cellInv ER (Rd ι) κ (kcell ck))),
    bigSep_congr (s := Finset.univ) (fun (c : Dev nD) _ => bigSep_sep' Finset.univ (fun k : Cl => (atPos ER (kcell (c, k)) 0 ∅ 0 : sProp (MM F))) (fun k => reached ER (kcell (c, k)) 0)),
    bigSep_sep', ← bigSep_univ_prod (fun ck : Dev nD × Cl => (reached ER (kcell ck) 0 : sProp (MM F))), toks_around]
  iintro ⟨HI, ⟨Hat, #HR⟩, Htk⟩
  ihave HK := (BI.bigSep_exists_pi Finset.univ (fun (ck : Dev nD × Cl) (κ : ℕ) => (cellInv ER (Rd ι) κ (kcell ck) : sProp (MM F)))) $$ HI
  icases HK with ⟨%K, #HI⟩
  iapply (with_persistent (R := recs ι K) (Φ := linear) (Ψ := G' ι) fun c _ => show iprop(recs ι K ∗ linear c) ⊢ G' ι c from by
    unfold G'; iintro H; iexists K; iexact H)
  isplitr
  · unfold recs; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G ι c) : sProp (MM F))
    ⊢ |={Set.univ}=> bigSep Finset.univ (G' ι) :=
  ((bigSep_mono fun c _ => core_alloc ι c).trans (bigSep_fupd _ _)).trans (BI.fupd_mono (regroup ι))

end

/-! ## The credits -/

theorem kcell_eq_iff {c c' : Dev nD} {k k' : Cl} : kcell (c, k) = kcell (c', k') ↔ c = c' ∧ k = k' :=
  ⟨fun h => by have := kcell_injective h; exact Prod.mk.inj this, fun h => by rw [h.1, h.2]⟩

theorem owed_at_bar (d c : Dev nD) : O₀ d (barCell c) () = ∑ e : Fin 3, if d = nb e c then 1 else 0 := by
  have h0 : owed 0 d (barCell c) () = 0 := by
    by_contra h
    obtain ⟨y, -, hy⟩ := owed_pos (Nat.pos_of_ne_zero h)
    have := (kcell_eq_iff (k := none) (k' := some (true, y))).mp hy
    cases this.2
  have hb (e : Fin 3) : bars d e (barCell c) () = if d = nb e c then 1 else 0 := by
    unfold bars
    rw [tallyAt_apply]
    refine if_congr ?_ rfl rfl
    rw [show (barCell c = barCell (bn e d)) ↔ c = bn e d from (kcell_eq_iff (k := none) (k' := none)).trans (and_iff_left rfl)]
    exact ⟨fun h => by rw [h.1, nb_bn], fun h => ⟨by rw [h, bn_nb], rfl⟩⟩
  unfold O₀
  rw [Pi.add_apply, Finsupp.add_apply, Pi.add_apply, Finsupp.add_apply, Pi.add_apply, Finsupp.add_apply, h0, hb, hb, hb, Fin.sum_univ_three]
  omega

theorem owed_at_rcv (d : Dev nD) (x : X) (c : Dev nD) : O₀ d (rcvCell x c) () = if d = x.frm c then x.N else 0 := by
  have hb (e : Fin 3) : bars d e (rcvCell x c) () = 0 := by
    unfold bars
    rw [tallyAt_apply]
    refine if_neg fun h => ?_
    have := (kcell_eq_iff (k := some (true, x)) (k' := none)).mp h.1
    cases this.2
  unfold O₀
  rw [Pi.add_apply, Finsupp.add_apply, Pi.add_apply, Finsupp.add_apply, Pi.add_apply, Finsupp.add_apply, hb, hb, hb]
  unfold owed
  rw [Finset.sum_apply, Finsupp.finset_sum_apply, Finset.sum_filter_of_ne fun _ _ _ => Nat.zero_le _,
    Finset.sum_eq_single x (fun y _ hy => by
      rw [tallyAt_apply]
      refine if_neg fun h => hy ?_
      have := (kcell_eq_iff (k := some (true, x)) (k' := some (true, y))).mp h.1
      exact (Prod.mk.inj (Option.some.inj this.2)).2.symm) (fun h => absurd (Finset.mem_univ x) h), tallyAt_apply]
  refine if_congr ?_ rfl rfl
  rw [show (rcvCell x c = rcvCell x (x.tg d)) ↔ c = x.tg d from (kcell_eq_iff (k := some (true, x)) (k' := some (true, x))).trans (and_iff_left rfl)]
  exact ⟨fun h => by rw [h.1, x.frm_tg], fun h => ⟨by rw [h, x.tg_frm], rfl⟩⟩

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_comm,
    Finset.sum_congr rfl fun e _ => (Finset.sum_ite_eq' Finset.univ (nb e c) fun _ => 1).trans (if_pos (Finset.mem_univ _))]
  rfl

theorem launch_rcv (x : X) (c : Dev nD) :
    tallyOn (rcvCell x c) (launchCredit (Pipeline.owing O₀) 0 (rcvCell x c)) = (tallyAt (rcvCell x c) () x.N : CellTallies nD τ sig Unit) := by
  unfold tallyAt; refine congrArg _ (Finsupp.ext fun u => ?_); cases u
  rw [Pipeline.launchCredit_owing, Finsupp.single_eq_same, Finset.sum_congr rfl fun d _ => owed_at_rcv d x c,
    Finset.sum_ite_eq' Finset.univ (x.frm c) fun _ => x.N, if_pos (Finset.mem_univ _)]

theorem creds (c : Dev nD) :
    (Pipeline.launchCred O₀ c : sProp (MM F)) ⊢ iprop(cred (tallyAt (barCell c) () 3) ∗ bigSep Finset.univ fun x : X => cred (tallyAt (rcvCell x c) () x.N)) := by
  unfold Pipeline.launchCred
  refine (bigSep_subset (Finset.subset_univ (Finset.univ.map ⟨csem, csem_injective⟩))).trans ?_
  rw [bigSep_map, opt, ends]
  show iprop(cred (tallyOn (barCell c) (launchCredit (Pipeline.owing O₀) 0 (barCell c))) ∗ (bigSep Finset.univ fun x : X => cred (tallyOn (sndCell x c) (launchCredit (Pipeline.owing O₀) 0 (sndCell x c))))
    ∗ bigSep Finset.univ fun x : X => cred (tallyOn (rcvCell x c) (launchCredit (Pipeline.owing O₀) 0 (rcvCell x c)))) ⊢ _
  rw [launch_bar, bigSep_congr (fun x _ => congrArg (fun t => (cred t : sProp (MM F))) (launch_rcv x c))]
  iintro ⟨H1, -, H2⟩
  isplitl [H1]; · iexact H1
  iexact H2

end Cert.KernelIdeal.RS
end
-- ==== Proof.KernelIdeal.Run.lean ====
/-
The run of the eight devices, from any memory: it ends, with every semaphore at zero, the operands as they were and on
each device the result `out` names.
-/
module

public import proofs.«01_k».proof.Proof.KernelIdeal.Launch
public import Idealize.ShloMosaic.Lib.Pipeline.CollectiveSegs

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What the region is run with -/

/-- What a device's body starts from, and what it leaves. -/
def start (c : Dev nD) : sProp (MM F) :=
  iprop(G' (ins m) c ∗ (cred (tallyAt (barCell c) () 3) ∗ bigSep Finset.univ fun x : X => cred (tallyAt (rcvCell x c) () x.N)) ∗ levAts L lv)
def Φ₀ (c : Dev nD) : sProp (MM F) := iprop(start m c ∗ Scr (F := F) c)
def Φ₁ (c : Dev nD) : sProp (MM F) :=
  iprop(Scr (F := F) c ∗ Pipeline.ownSems0 (Ix := Unit) (Name := ℕ) (U := UU) (Lvl := ℕ) (Val := Elt F) (τ := τ) osem c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).w c
    | ⟨2, _⟩ => (ins m).sx c
    | ⟨3, _⟩ => (ins m).sw c
    | ⟨4, _⟩ => out (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))
theorem stg_eq (c : Dev nD) (b : Ref sig .tc) (X : b.ty.Contents (Elt F)) : stg c b X ⊢ Own c (Memref.whole b) Finset.univ X := by
  iintro ⟨%f, %hf, H⟩
  subst hf
  rw [← own_whole]
  iexact H
theorem eq_stg (c : Dev nD) (b : Ref sig .tc) (X : b.ty.Contents (Elt F)) : Own c (Memref.whole b) Finset.univ X ⊢ stg c b X := by
  rw [← own_whole]
  iintro H
  iexists X
  isplitr
  · ipureintro; rfl
  · iexact H
theorem whole_ex (c : Dev nD) (b : Ref sig .tc) :
    iprop(∃ f : Buf (Elt F) ((c : Thread nD τ).loc b), ((c : Thread nD τ).loc b) ↦{fullShare} f) = iprop(∃ g : b.ty.Contents (Elt F), Own c (Memref.whole b) Finset.univ g) := by
  simp only [← own_whole]

theorem scr_eq (c : Dev nD) : (Pipeline.scopedRest cfg0.spec c : sProp (MM F)) = Scr c := by
  rw [show cfg0.spec = spec0 from rfl, scopedRest0_eq]
  simp only [whole_ex]
  rfl

theorem recs_rec (K : Dev nD × Cl → ℕ) : iprop(recs (ins m) K ∗ levAts L lv) ⊢ Rec (ins m) K := by
  unfold recs Rec
  iintro ⟨⟨H1, H2⟩, H3⟩
  isplitl [H1]; · iexact H1
  isplitl [H2]; · iexact H2
  iexact H3

theorem fresh_all (c : Dev nD) :
    iprop(((bigSep Finset.univ fun x => dutyTok ER (sndCell x c) 0 0) ∗ (bigSep Finset.univ fun x => dutyTok ER (rcvCell x (x.tg c)) 0 0))
      ∗ ((bigSep Finset.univ fun x => atPos ER (sndCell x c) 0 ∅ 0) ∗ (bigSep Finset.univ fun x => atPos ER (rcvCell x c) 0 ∅ 0))
      ∗ (bigSep Finset.univ fun x : X => cred (tallyAt (rcvCell x c) () x.N))) ⊢ bigSep Finset.univ fun x => fresh (F := F) x c := by
  unfold fresh
  rw [bigSep_sep', bigSep_sep', bigSep_sep', bigSep_sep']
  iintro ⟨⟨H1, H2⟩, ⟨H3, H4⟩, H5⟩
  isplitl [H1]; · iexact H1
  isplitl [H2]; · iexact H2
  isplitl [H3]; · iexact H3
  isplitl [H4]; · iexact H4
  iexact H5

/-- From what the launch gives to what the body starts with. -/
theorem begin' (c : Dev nD) (W) (X : S512x2048.Idx → Elt F .f32) :
    iprop(Φ₀ m c ∗ owes (c : Thread nD τ) (O₀ c) W ∗ Stg (ins m) c X) ⊢ iprop(∃ K, Cells0 (ins m) K c W ∗ Bufs0 (ins m) c) := by
  unfold Φ₀ start G' linear payToks
  rw [opt, ends, fin3]
  iintro ⟨⟨⟨⟨%K, HR, ⟨Hab, Has, Har⟩, ⟨Ht0, Ht1, Ht2⟩, Hts, Htr⟩, ⟨Hcb, Hcr⟩, Hlev⟩, Hscr⟩, HO, Hstg⟩
  ihave HR := (recs_rec m K) $$ [HR Hlev]
  · isplitl [HR]; · iexact HR
    iexact Hlev
  ihave HF := (fresh_all (F := F) c) $$ [Has Har Hts Htr Hcr]
  · isplitl [Hts Htr]
    · isplitl [Hts]; · iexact Hts
      iexact Htr
    isplitl [Has Har]
    · isplitl [Has]; · iexact Has
      iexact Har
    iexact Hcr
  ihave HB := (deal (ins m) c X) $$ [Hstg Hscr]
  · isplitl [Hstg]; · iexact Hstg
    iexact Hscr
  icases HB with ⟨HM, HB⟩
  iexists K
  isplitr [HB]
  · unfold Cells0
    isplitl [HR]; · iexact HR
    isplitl [HO]; · iexact HO
    isplitl [Ht0 Ht1 Ht2]
    · isplitl [Ht0]; · iexact Ht0
      isplitl [Ht1]; · iexact Ht1
      iexact Ht2
    isplitl [HM]; · iexact HM
    isplitl [Hcb]; · iexact Hcb
    isplitl [Hab]; · iexact Hab
    iexact HF
  · iexact HB

theorem ph_end (ι : Ins F) (c : Dev nD) : (bigSep Finset.univ fun x => ph ι 60 x c)
    = iprop((bigSep Finset.univ fun k : Bool × X => semVal ((c : Thread nD τ), osem k) 0) ∗ bigSep Finset.univ fun x => payS ι x c) := by
  have h (x : X) : ph ι 60 x c = over ι x c := by
    have h1 := sp_lt x
    have h2 := wp_lt x
    unfold ph
    rw [if_neg (by omega), if_neg (by omega)]
  rw [bigSep_congr fun x _ => h x, ends]
  unfold over
  rw [bigSep_sep', bigSep_sep']
  exact BI.equiv_iff.mp ⟨BI.sep_assoc', BI.sep_assoc⟩

/-- From what the body ends with to what the launch asks back. -/
theorem finish (c : Dev nD) (K : Dev nD × Cl → ℕ) :
    iprop(St (ins m) K 60 c ∗ semVal (barCell c) 0 ∗ Bufs1 (ins m) c) ⊢ iprop(Φ₁ c ∗ (∃ W, owes (c : Thread nD τ) 0 W) ∗ Stg (ins m) c (out (ins m) c)) := by
  unfold St Φ₁
  rw [ph_end, owed_end]
  iintro ⟨⟨-, ⟨Hv, Hp⟩, HO⟩, Hb, HB⟩
  ihave H := (back (ins m) c) $$ [Hp HB]
  · isplitl [Hp]; · iexact Hp
    iexact HB
  icases H with ⟨Hst, Hscr⟩
  isplitl [Hscr Hv Hb]
  · isplitl [Hscr]; · iexact Hscr
    isplitl [Hv]; · unfold Pipeline.ownSems0; iexact Hv
    iexact Hb
  isplitl [HO]; · iexact HO
  iexact Hst

theorem sound (c : Dev nD) (W) (X : S512x2048.Idx → Elt F .f32) :
    iprop(Φ₀ m c ∗ owes (c : Thread nD τ) (O₀ c) W ∗ Stg (ins m) c X)
      ⊢ WP c (wholeP (F := F)) fun _ => iprop(Φ₁ c ∗ (∃ W, owes (c : Thread nD τ) 0 W) ∗ Stg (ins m) c (out (ins m) c)) := by
  refine (begin' m c W X).trans ?_
  iintro ⟨%K, H⟩
  unfold wholeP
  simp only [Prog.lift, Prog.bind_op, Prog.bind_ret]
  unfold WP
  rw [wp_deviceId]
  iapply ((seq_run (ins m) K c W).trans (Idealize.SL.Sem.wp_mono _ _ _ fun _ => finish m c K))
  iexact H

theorem owns_eq (c : Dev nD) (b : Ref sig .tc) (X : b.ty.Contents (Elt F)) :
    (owns (Ix := Unit) (Name := ℕ) (U := UU) (Lvl := ℕ) (c : Thread nD τ) (Memref.whole b) fullShare X : sProp (MM F)) = stg c b X := by
  unfold owns; simp only [Memref.view_whole, View.read_whole, View.set_whole]

def bodyPre (c : Dev nD) : sProp (MM F) :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp (MM F) :=
  iprop(Φ₁ (F := F) c ∗ (dats m ρ 0 c).owesAt () t0_0.succ ∗ stg c cc0_stg0_0 ((ins m).x c) ∗ stg c cc0_stg1_0 ((ins m).w c)
    ∗ stg c cc0_stg2_0 ((ins m).sx c) ∗ stg c cc0_stg3_0 ((ins m).sw c) ∗ stg c cc0_stg4_0 (out (ins m) c))

theorem pre_in (c : Dev nD) : bodyPre m ρ c ⊢ iprop(∃ W X, Φ₀ m c ∗ owes (c : Thread nD τ) (O₀ c) W ∗ Stg (ins m) c X) := by
  unfold bodyPre Stg
  iintro ⟨HΦ, Ho, ⟨%d0, H0⟩, ⟨%d1, H1⟩, ⟨%d2, H2⟩, ⟨%d3, H3⟩, ⟨%d4, H4⟩⟩
  unfold Dat.owesAt Pipeline.owesWithin
  icases Ho with ⟨%W, %hW, HO⟩
  rw [show (dats m ρ 0 c).owed t0_0.castSucc = O₀ c from rfl]
  rw [show (dats m ρ 0 c).before (0 : Fin 5) t0_0 d0 = (ins m).x c by unfold Dat.before; rw [if_pos (fetch0_0 t0_0)]; rfl,
    show (dats m ρ 0 c).before (1 : Fin 5) t0_0 d1 = (ins m).w c by unfold Dat.before; rw [if_pos (fetch0_1 t0_0)]; rfl,
    show (dats m ρ 0 c).before (2 : Fin 5) t0_0 d2 = (ins m).sx c by unfold Dat.before; rw [if_pos (fetch0_2 t0_0)]; rfl,
    show (dats m ρ 0 c).before (3 : Fin 5) t0_0 d3 = (ins m).sw c by unfold Dat.before; rw [if_pos (fetch0_3 t0_0)]; rfl]
  iexists W
  iexists ((dats m ρ 0 c).before (4 : Fin 5) t0_0 d4)
  isplitl [HΦ]; · iexact HΦ
  isplitl [HO]; · iexact HO
  isplitl [H0]; · iapply (stg_eq c cc0_stg0_0 ((ins m).x c)); iexact H0
  isplitl [H1]; · iapply (stg_eq c cc0_stg1_0 ((ins m).w c)); iexact H1
  isplitl [H2]; · iapply (stg_eq c cc0_stg2_0 ((ins m).sx c)); iexact H2
  isplitl [H3]; · iapply (stg_eq c cc0_stg3_0 ((ins m).sw c)); iexact H3
  iapply (stg_eq c cc0_stg4_0 ((dats m ρ 0 c).before (4 : Fin 5) t0_0 d4)); iexact H4

theorem post_out (c : Dev nD) : iprop(Φ₁ c ∗ (∃ W, owes (c : Thread nD τ) 0 W) ∗ Stg (ins m) c (out (ins m) c)) ⊢ bodyPost m ρ c := by
  unfold bodyPost Stg
  iintro ⟨HΦ, ⟨%W, HO⟩, H0, H1, H2, H3, H4⟩
  unfold Dat.owesAt Pipeline.owesWithin
  rw [show (dats m ρ 0 c).owed t0_0.succ = 0 from rfl]
  isplitl [HΦ]; · iexact HΦ
  isplitl [HO]
  · iexists W
    isplitr; · ipureintro; exact fun _ _ => Or.inl trivial
    iexact HO
  isplitl [H0]; · iapply (eq_stg c cc0_stg0_0 ((ins m).x c)); iexact H0
  isplitl [H1]; · iapply (eq_stg c cc0_stg1_0 ((ins m).w c)); iexact H1
  isplitl [H2]; · iapply (eq_stg c cc0_stg2_0 ((ins m).sx c)); iexact H2
  isplitl [H3]; · iapply (eq_stg c cc0_stg3_0 ((ins m).sw c)); iexact H3
  iapply (eq_stg c cc0_stg4_0 (out (ins m) c)); iexact H4

theorem whole_run (c : Dev nD) : bodyPre m ρ c ⊢ WP c (wholeP (F := F)) fun _ => bodyPost m ρ c := by
  refine (pre_in m ρ c).trans ?_
  iintro ⟨%W, %X, H⟩
  iapply ((sound m c W X).trans (Idealize.SL.Sem.wp_mono _ _ _ fun _ => post_out m ρ c))
  iexact H

set_option maxRecDepth 65536 in
theorem body_obligation (c : Dev nD) : BodyObligation (dats (F := F) m ρ 0 c) (defs₀ (F := F)) 𝒱₀ () Set.univ := fun t => by
  rw [fin_N0 t]
  rw [show (bigSep Finset.univ : (Fin cfg0.W → sProp (MM F)) → sProp (MM F)) = fun Φ => bigSep (Finset.univ : Finset (Fin 5)) Φ from rfl]
  simp only [bigSep_W0]
  simp only [owns_eq]
  show bodyPre m ρ c ⊢ WP c (bodyAt0 (F := F) t0_0) fun _ => bodyPost m ρ c
  rw [body_eq]
  exact whole_run m ρ c

/-! ## The theorem's side conditions -/

theorem ownSemFacts : Pipeline.OwnSemFacts cfg0.spec osem where
  isScoped := by decide +kernel
  inj := fun a b h => Option.some.inj (csem_injective h)
  disj := by decide +kernel

theorem share_eq (c : Dev nD) (w : Fin cfg0.W) : (dats m ρ 0 c).share w = fullShare := by unfold Dat.share; split <;> rfl

theorem kind_none {s : SemLoc sig} (h : ∀ k, csem k ≠ s) : kind s = none := by
  unfold kind
  exact dif_neg fun ⟨k, hk⟩ => h k hk

theorem stage_kind : ∀ (w : Fin 5) (s : Fin (spec0 w).nbuf) (k : Cl), csem k ≠ .dma ((spec0 w).sem s) := by decide +kernel

theorem waits (c : Dev nD) : (levAts L lv : sProp (MM F)) ⊢ Pipeline.cellsWaits cfgs (dats m ρ) () 0 c :=
  Pipeline.cellsWaits_intro cfgs (dats m ρ) () 0 c fun w s t =>
    mayWait_stage c _ (kind_none (stage_kind w s)) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, unscoped_eq]
  unfold Φ₁
  iintro ⟨Hr, Hs, Hb⟩
  isplitl [Hb]; · iexact Hb
  isplitl [Hs]; · iexact Hs
  iexact Hr

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 65536 in
/-- From any memory with every semaphore at zero the eight devices run to the end, each window's array at what the body
    leaves and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_cells (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.RS
end
-- ==== Proof.KernelIdeal.Final.lean ====
/-
What the run leaves in memory: the operands' arrays as they were, the result's array at `out`.
-/
module

public import proofs.«01_k».proof.Proof.KernelIdeal.Run

@[expose] public section

noncomputable section

namespace Cert.KernelIdeal.RS

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A window's one block is its whole array. -/
theorem whole_read (b : Ref sig .tc) (f : b.ty.Contents (Elt F)) (inb) :
    ((Memref.whole b).access (Rect.unit (fun a => 0 * b.ty.shape.size a) b.ty.shape.size inb) : View sig .tc _ _ _).read (Elt F) f = f :=
  Memref.read_access_unit_zero (Elt F) b (funext fun _ => Nat.zero_mul _) inb f

/-- The operands a device reads are its arrays. -/
theorem ins_x (c : Dev nD) : (ins m).x c = m ((c : Thread nD τ).loc main_arg0) := by
  have h : (win0_0.blk (0 : Fin 1)).view.read (Elt F) (m ((c : Thread nD τ).loc main_arg0)) = m ((c : Thread nD τ).loc main_arg0) :=
    whole_read main_arg0 _ _
  exact h
theorem ins_w (c : Dev nD) : (ins m).w c = m ((c : Thread nD τ).loc main_arg1) := by
  have h : (win0_1.blk (0 : Fin 1)).view.read (Elt F) (m ((c : Thread nD τ).loc main_arg1)) = m ((c : Thread nD τ).loc main_arg1) :=
    whole_read main_arg1 _ _
  exact h
theorem ins_sx (c : Dev nD) : (ins m).sx c = m ((c : Thread nD τ).loc main_arg2) := by
  have h : (win0_2.blk (0 : Fin 1)).view.read (Elt F) (m ((c : Thread nD τ).loc main_arg2)) = m ((c : Thread nD τ).loc main_arg2) :=
    whole_read main_arg2 _ _
  exact h
theorem ins_sw (c : Dev nD) : (ins m).sw c = m ((c : Thread nD τ).loc main_arg3) := by
  have h : (win0_3.blk (0 : Fin 1)).view.read (Elt F) (m ((c : Thread nD τ).loc main_arg3)) = m ((c : Thread nD τ).loc main_arg3) :=
    whole_read main_arg3 _ _
  exact h

/-- The result's array after the run. -/
theorem final_out (c : Dev nD) : (dats m ρ 0 c).arrAt (4 : Fin 5) cfg0.N = out (ins m) c := by
  have h : (win0_4.blk (0 : Fin 1)).view.read (Elt F) ((dats m ρ 0 c).arrAt (4 : Fin 5) cfg0.N) = out (ins m) c := by
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  exact (whole_read main_v1 _ _).symm.trans h

/-- From any memory with every semaphore at zero the eight devices run to the end; each device's result is `out` of the
    operands, the operands are unchanged and every semaphore reads zero again. -/
theorem run_value : θ_run defs (onTc (τ := τ) (main (F := F))) ⟨m, fun _ => 0, ρ⟩ (fun r => (∀ c : Dev nD,
      r.2.mem ((c.tc : Thread nD τ).loc main_v1) = out (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨(h.1 c (4 : Fin 5)).trans (final_out m ρ c), (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩) (run_main m ρ)

end Cert.KernelIdeal.RS
end
-- ==== Proof.KernelIdeal.Value.lean ====
/-
Over the extended reals: a device's result is the sum of the eight devices' products for its block of rows, scaled and
cut below at zero. Each slab a ring carries is the sum of the products of the devices it has passed.
-/
module

public import proofs.«01_k».proof.Proof.KernelIdeal.Contents
public import Idealize.ShloMosaic.Lib.MatmulPlain
public import Idealize.ShloMosaic.Lib.ValueIdx
public import Idealize.ShloMosaic.Lib.Pipeline.Value
public import Idealize.ShloMosaic.PureOps.Ideal

@[expose] public section

noncomputable section

namespace Cert.KernelIdeal.RS.Sums

open Cert.KernelIdeal Cert.KernelIdeal.Gen
open Idealize.ShloMosaic
open Idealize.ShloMosaic.ValueIdx (ix2 ix3)
open scoped BigOperators

variable (ι : Ins Ideal)

/-- Device `c`'s product for row `i` of block `k` and column `l` of the whole result. -/
def D (c : Dev nD) (k : Fin 8) (i : Fin 512) (l : Fin 2048) : EReal :=
  ∑ q : Fin 512, (ι.x c (ix2 ⟨512 * k.val + i.val, by omega⟩ q) : EReal) * (ι.w c (ix2 q l) : EReal)

/-! ## The products -/

theorem D_congr {c c' : Dev nD} {k k' : Fin 8} {i i' : Fin 512} {l l' : Fin 2048} (hc : c = c') (hk : k = k') (hi : i.val = i'.val) (hl : l.val = l'.val) :
    D ι c k i l = D ι c' k' i' l' := by
  obtain rfl := hc
  obtain rfl := hk
  obtain rfl := Fin.ext hi
  obtain rfl := Fin.ext hl
  rfl

/-- A product of 512 rows of `x` with some columns of `w`, at an index. -/
theorem dot_at {N : Nat} (c : Dev nD) (k : Fin 8) (W : FVec Ideal ⟨2, ![512, N]⟩ .fp8e5m2) (i : Fin 512) (l : Fin N) (l' : Fin 2048)
    (hW : ∀ q, W (ix2 q l) = ι.w c (ix2 q l')) (acc : FVec Ideal ⟨2, ![512, N]⟩ .f32) (ha : acc (ix2 i l) = (0 : EReal)) :
    FloatOps.matmul (DotDims.plain 512 512 N) none (xB ι c k) W acc (ix2 i l) = D ι c k i l' := by
  rw [Ideal.matmul_plain_apply, ha, zero_add]
  unfold D
  refine Finset.sum_congr rfl fun q _ => ?_
  rw [hW]
  refine congrArg (· * _) ?_
  unfold xB
  refine congrArg (ι.x c) (funext fun a => Fin.ext ?_)
  match a with
  | ⟨0, _⟩ => show 512 * k.val + 1 * i.val = 512 * k.val + i.val; omega
  | ⟨1, _⟩ => show 0 + 1 * q.val = q.val; omega

theorem cols {N o : Nat} (inb : ∀ a, (![0, o] : Fin 2 → Nat) a + (![512, N] : Fin 2 → Nat) a ≤ S512x2048.size a) (q : Fin 512) (l : Fin N) (h : o + l.val < 2048) :
    (Rect.unit (s := S512x2048) ![0, o] ![512, N] inb).emb (ix2 q l) = ix2 q (⟨o + l.val, h⟩ : Fin 2048) := by
  funext a
  apply Fin.ext
  match a with
  | ⟨0, _⟩ => show 0 + 1 * q.val = q.val; omega
  | ⟨1, _⟩ => show o + 1 * l.val = o + l.val; omega

theorem pA_eq (d : Bool) (c : Dev nD) (h : Fin 4) (i : Fin 1024) (l : Fin 256) :
    (pA ι d c h i l : EReal) = D ι c (kA d c h (hf i)) (lo i) ⟨256 * (bit d).val + l.val, by have := (bit d).isLt; omega⟩ := by
  unfold pA mmA k0_pay4
  exact dot_at ι c _ (wA ι c d) _ l _ (fun q => congrArg (ι.w c) (cols (inbW d) q l _)) _ Ideal.ofBits_zero_f32

theorem snd_eq (c : Dev nD) (i : Fin 2048) (l : Fin 1536) :
    (snd ι c i l : EReal) = D ι c ⟨4 * ((c.val / 4 + 1) % 2) + (qf i).val, by omega⟩ (lo i) ⟨512 + l.val, by omega⟩ := by
  unfold snd mmV k0_pay12
  simp only [shapeCast_self]
  refine (dot_at ι c _ (wV ι c (sd l)) _ (sl l) ⟨512 + 768 * (bit (sd l)).val + (sl l).val, by have := (bit (sd l)).isLt; omega⟩
    (fun q => congrArg (ι.w c) (cols (inbV (sd l)) q (sl l) _)) _ Ideal.ofBits_zero_f32).trans (D_congr ι rfl rfl rfl ?_)
  show 512 + 768 * (bit (sd l)).val + l.val % 768 = 512 + l.val
  unfold sd
  by_cases h : 768 ≤ l.val
  · rw [decide_eq_true h]; show 512 + 768 * 1 + l.val % 768 = _; omega
  · rw [decide_eq_false h]; show 512 + 768 * 0 + l.val % 768 = _; omega

theorem mine_eq (c : Dev nD) (i : Fin 2048) (l : Fin 1536) :
    (mine ι c i l : EReal) = D ι c (kM c (qf i)) (lo i) ⟨512 + l.val, by omega⟩ := by
  unfold mine mmU k0_pay47
  simp only [shapeCast_self]
  exact dot_at ι c _ (wU ι c) _ l _ (fun q => congrArg (ι.w c) (cols _ q l _)) _ Ideal.ofBits_zero_f32

/-! ## The slabs -/

/-- The devices of a group, in the order a ring passes them, the last of them `c`. -/
def ord (d : Bool) (c : Dev nD) : Fin 4 → Dev nD
  | 0 => up d (up d (up d c)) | 1 => up d (up d c) | 2 => up d c | 3 => c

theorem SA_eq (d : Bool) (c : Dev nD) (i : Fin 1024) (l : Fin 256) :
    (SA ι d 3 c i l : EReal) = pA ι d (ord d c 0) 0 i l + pA ι d (ord d c 1) 1 i l + pA ι d (ord d c 2) 2 i l + pA ι d (ord d c 3) 3 i l := rfl

theorem SB_eq (d : Bool) (c : Dev nD) (i : Fin 512) (l : Fin 768) :
    (FloatOps.addf (ext16 (SB ι d 2 (up d c) i l)) (bv ι d c 3 i l) : EReal)
      = bv ι d (ord d c 0) 0 i l + bv ι d (ord d c 1) 1 i l + bv ι d (ord d c 2) 2 i l + bv ι d (ord d c 3) 3 i l := rfl

/-- Whose block of rows a device works on at each hop. -/
theorem kA_ord : ∀ (d : Bool) (c : Dev nD) (h : Fin 4) (r : Fin 2), kA d (ord d c h) h r = ⟨c.val % 4 + 4 * r.val, by omega⟩ := by decide
theorem kM_ord : ∀ (d : Bool) (c : Dev nD) (h : Fin 4), kM (ord d c h) (ci d (ord d c h) h) = c := by decide
theorem kP_ord : ∀ (d : Bool) (c : Dev nD) (h : Fin 4),
    (⟨4 * (((zp (ord d c h)).val / 4 + 1) % 2) + (ci d (ord d c h) h).val, by omega⟩ : Fin 8) = c := by decide

theorem bv_eq (d : Bool) (c : Dev nD) (h : Fin 4) (i : Fin 512) (l : Fin 768) :
    (bv ι d (ord d c h) h i l : EReal)
      = D ι (ord d c h) c i ⟨512 + 768 * (bit d).val + l.val, by have := (bit d).isLt; omega⟩
        + D ι (zp (ord d c h)) c i ⟨512 + 768 * (bit d).val + l.val, by have := (bit d).isLt; omega⟩ := by
  have hq (k : Fin 4) (hk : 512 * k.val + i.val < 2048) : qf ⟨512 * k.val + i.val, hk⟩ = k := Fin.ext (by show (512 * k.val + i.val) / 512 = k.val; omega)
  have hl (k : Nat) (hk : 512 * k + i.val < 2048) : (lo (⟨512 * k + i.val, hk⟩ : Fin 2048)).val = i.val := by show (512 * k + i.val) % 512 = i.val; omega
  refine (congrArg₂ (· + ·) ((mine_eq ι _ _ _).trans (D_congr ι rfl ?_ (hl _ _) ?_)) ((snd_eq ι _ _ _).trans (D_congr ι rfl ?_ (hl _ _) ?_)) : _)
  · rw [hq, kM_ord]
  · show 512 + (768 * (bit d).val + l.val) = 512 + 768 * (bit d).val + l.val; omega
  · simp only [hq]; exact kP_ord d c h
  · show 512 + (768 * (bit d).val + l.val) = 512 + 768 * (bit d).val + l.val; omega

theorem pA_at (d : Bool) (c e : Dev nD) (he : e.val % 4 = c.val % 4) (h : Fin 4) (i : Fin 512) (l : Fin 256) (hi : myO c + i.val < 1024) :
    (pA ι d (ord d e h) h ⟨myO c + i.val, hi⟩ l : EReal) = D ι (ord d e h) c i ⟨256 * (bit d).val + l.val, by have := (bit d).isLt; omega⟩ := by
  refine (pA_eq ι _ _ _ _ _).trans (D_congr ι rfl ?_ ?_ rfl)
  · rw [kA_ord]
    apply Fin.ext
    show e.val % 4 + 4 * ((myO c + i.val) / 512) = c.val
    have : c.val < 8 := c.isLt
    unfold myO
    split <;> omega
  · show (myO c + i.val) % 512 = i.val
    unfold myO
    split <;> omega

/-! ## The sums -/

/-- The eight devices, once each, however the rings list them. -/
def eight (d : Bool) (c : Dev nD) : Fin 2 × Fin 4 → Dev nD
  | (0, h) => ord d c h | (1, h) => ord d (zp c) h
theorem eight_bij : ∀ (d : Bool) (c : Dev nD), Function.Bijective (eight d c) := by decide +kernel
theorem zp_ord : ∀ (d : Bool) (c : Dev nD) (h : Fin 4), zp (ord d c h) = ord d (zp c) h := by decide +kernel

theorem sum_eight (d : Bool) (c : Dev nD) (f : Dev nD → EReal) :
    ∑ e, f e = (f (ord d c 0) + f (ord d c 1) + f (ord d c 2) + f (ord d c 3))
      + (f (ord d (zp c) 0) + f (ord d (zp c) 1) + f (ord d (zp c) 2) + f (ord d (zp c) 3)) := by
  rw [← (Equiv.ofBijective _ (eight_bij d c)).sum_comp, Fintype.sum_prod_type, Fin.sum_univ_two, Fin.sum_univ_four, Fin.sum_univ_four]
  rfl

theorem outA_eq (d : Bool) (c : Dev nD) (i : Fin 512) (l : Fin 256) :
    (outA ι d c i l : EReal) = relu (F := Ideal) (scl ι c) (∑ e, D ι e c i ⟨256 * (bit d).val + l.val, by have := (bit d).isLt; omega⟩ : EReal) := by
  unfold outA
  refine congrArg (relu (F := Ideal) (scl ι c)) ?_
  rw [sum_eight d c]
  refine (congrArg₂ (· + ·) (SA_eq ι d c _ l) (SA_eq ι d (zp c) _ l) : _).trans ?_
  have hz : (zp c).val % 4 = c.val % 4 := by have : c.val < 8 := c.isLt; show (c.val + 4) % 8 % 4 = c.val % 4; omega
  rw [pA_at ι d c c rfl, pA_at ι d c c rfl, pA_at ι d c c rfl, pA_at ι d c c rfl,
    pA_at ι d c _ hz, pA_at ι d c _ hz, pA_at ι d c _ hz, pA_at ι d c _ hz]

theorem outB_eq (d : Bool) (c : Dev nD) (i : Fin 512) (l : Fin 768) :
    (outB ι d c i l : EReal) = relu (F := Ideal) (scl ι c) (∑ e, D ι e c i ⟨512 + 768 * (bit d).val + l.val, by have := (bit d).isLt; omega⟩ : EReal) := by
  unfold outB
  refine congrArg (relu (F := Ideal) (scl ι c)) ?_
  rw [sum_eight d c]
  refine (SB_eq ι d c i l).trans ?_
  rw [bv_eq, bv_eq, bv_eq, bv_eq, zp_ord, zp_ord, zp_ord, zp_ord]
  abel

/-- A device's result: its block of rows of the eight products summed, scaled and cut below at zero. -/
theorem out_eq (c : Dev nD) (i : S512x2048.Idx) : (out ι c i : EReal) = relu (F := Ideal) (scl ι c) (∑ e, D ι e c (i 0) (i 1) : EReal) := by
  have hl : (i 1).val < 2048 := (i 1).isLt
  unfold out
  split
  · rename_i h
    refine (outA_eq ι _ c _ _).trans (congrArg (relu (F := Ideal) (scl ι c)) (Finset.sum_congr rfl fun e _ => D_congr ι rfl rfl rfl ?_))
    show 256 * (bit (decide (256 ≤ (i 1).val))).val + (i 1).val % 256 = (i 1).val
    by_cases h' : 256 ≤ (i 1).val
    · rw [decide_eq_true h']; show 256 * 1 + _ = _; omega
    · rw [decide_eq_false h']; show 256 * 0 + _ = _; omega
  · rename_i h
    refine (outB_eq ι _ c _ _).trans (congrArg (relu (F := Ideal) (scl ι c)) (Finset.sum_congr rfl fun e _ => D_congr ι rfl rfl rfl ?_))
    show 512 + 768 * (bit (decide (1280 ≤ (i 1).val))).val + ((i 1).val - 512) % 768 = (i 1).val
    by_cases h' : 1280 ≤ (i 1).val
    · rw [decide_eq_true h']; show 512 + 768 * 1 + _ = _; omega
    · rw [decide_eq_false h']; show 512 + 768 * 0 + _ = _; omega

end Cert.KernelIdeal.RS.Sums
end
-- ==== Proof.RefValue.lean ====
/-
The reference's run over the extended reals: its result is the product of the whole operands, scaled and cut below at
zero.
-/
module

public import proofs.«01_k».proof.Proof.Gen.ReferenceIdeal.Value
public import Idealize.ShloMosaic.Lib.MatmulPlain
public import Idealize.ShloMosaic.Lib.ValueIdx
public import Idealize.ShloMosaic.Lib.Tactic

@[expose] public section

noncomputable section

namespace Cert.ReferenceIdeal.Plain

open Cert.ReferenceIdeal Cert.ReferenceIdeal.Gen
open Idealize.ShloMosaic Idealize.ShloMosaic.TcCoe Idealize.SL.Sem
open Idealize.ShloMosaic.ValueIdx (ix2)
open Idealize.ShloMosaic.Pipeline (Dat)
open scoped BigOperators

variable {F : FTy → Type} [FloatOps F]
variable (m : (ℓ : Loc nD τ sig) → Buf (Elt F) ℓ) (ρ : Dev nD → PrngReg)

/-- The one place of an array of one element. -/
abbrev p0 : S1.Idx := (Rect.unit (s := S1) ![0] S1.size inb_S1_S1_0).point numel1_S1

theorem hz : (![0, 0] : Fin 2 → Nat) = fun _ => 0 := funext fun a => by fin_cases a <;> rfl

theorem out_A (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (sx sw : Vec F S1 .f32) :
    out0_A_4 c a0 h0 a1 h1 a2 h2 a3 h3 a4 h4 x w sx sw = k0_pay1 x w (sx p0) (sw p0) := by
  unfold out0_A_4
  rw [View.read_writes_eq_canon _ _ _ (cover0_A_4 c a0 h0 a1 h1 a2 h2 a3 h3 a4 h4 x w sx sw)]
  unfold kernelRun0_A
  dsimp only
  sl_unfold_words
  rw [View.canon_unit_zero hz]
  simp only [View.readAt_eq_ld, h0.read_unread, h1.read_unread, h2.read_unread, h3.read_unread, View.ld_unit_zero (S := S4096x4096) hz, View.ld_unit_zero (S := S4096x2048) hz]
  rfl

/-- The reference's result of its whole operands. -/
def refOut (x : S4096x4096.Idx → Elt F .fp8e4m3) (w : S4096x2048.Idx → Elt F .fp8e5m2) (sx sw : S1.Idx → Elt F .f32) : S4096x2048.Idx → Elt F .f32 :=
  k0_pay1 x w (sx p0) (sw p0)

/-- A window's one block is its whole array. -/
theorem whole_read (b : Ref sig .tc) (f : b.ty.Contents (Elt F)) (inb) :
    ((Memref.whole b).access (Rect.unit (fun a => 0 * b.ty.shape.size a) b.ty.shape.size inb) : View sig .tc _ _ _).read (Elt F) f = f :=
  Memref.read_access_unit_zero (Elt F) b (funext fun _ => Nat.zero_mul _) inb f

theorem in0 (c : Dev nD) : iblk m c 0 (0 : Fin 1) = m ((c : Thread nD τ).loc main_arg0) := by
  have h : (win0_0.blk (0 : Fin 1)).view.read (Elt F) (m ((c : Thread nD τ).loc main_arg0)) = m ((c : Thread nD τ).loc main_arg0) := whole_read main_arg0 _ _
  exact h
theorem in1 (c : Dev nD) : iblk m c 1 (0 : Fin 1) = m ((c : Thread nD τ).loc main_arg1) := by
  have h : (win0_1.blk (0 : Fin 1)).view.read (Elt F) (m ((c : Thread nD τ).loc main_arg1)) = m ((c : Thread nD τ).loc main_arg1) := whole_read main_arg1 _ _
  exact h
theorem in2 (c : Dev nD) : iblk m c 2 (0 : Fin 1) = m ((c : Thread nD τ).loc main_arg2) := by
  have h : (win0_2.blk (0 : Fin 1)).view.read (Elt F) (m ((c : Thread nD τ).loc main_arg2)) = m ((c : Thread nD τ).loc main_arg2) := whole_read main_arg2 _ _
  exact h
theorem in3 (c : Dev nD) : iblk m c 3 (0 : Fin 1) = m ((c : Thread nD τ).loc main_arg3) := by
  have h : (win0_3.blk (0 : Fin 1)).view.read (Elt F) (m ((c : Thread nD τ).loc main_arg3)) = m ((c : Thread nD τ).loc main_arg3) := whole_read main_arg3 _ _
  exact h

/-- The result's array after the run. -/
theorem final (c : Dev nD) : (dats m 0 c).arrAt (4 : Fin 5) cfg0.N
    = refOut (m ((c : Thread nD τ).loc main_arg0)) (m ((c : Thread nD τ).loc main_arg1)) (m ((c : Thread nD τ).loc main_arg2)) (m ((c : Thread nD τ).loc main_arg3)) := by
  have h := Cert.ReferenceIdeal.Value.blocks4 m c (0 : Fin 1) (flush0_4 _)
  have hf := Cert.ReferenceIdeal.Value.flushed4_A m c (0 : Fin 1)
  rw [out_A, in0, in1, in2, in3] at hf
  replace h := h.trans hf
  exact (whole_read main_v0 _ _).symm.trans h

/-- The reference's result at an index, over the extended reals. -/
theorem refOut_at (x : S4096x4096.Idx → Elt Ideal .fp8e4m3) (w : S4096x2048.Idx → Elt Ideal .fp8e5m2) (sx sw : S1.Idx → Elt Ideal .f32) (r : Fin 4096) (l : Fin 2048) :
    (refOut x w sx sw (ix2 r l) : EReal) = FloatOps.maximumf (F := Ideal) (φ := .f32) (FloatOps.mulf (F := Ideal) (φ := .f32)
        (∑ k : Fin 4096, (x (ix2 r k) : EReal) * (w (ix2 k l) : EReal) : EReal) (Scalar.mulf (sx p0) (sw p0))) (Scalar.ofBits .f32 0x00000000#32) := by
  have h := Ideal.matmul_plain_apply (M := 4096) (K := 4096) (N := 2048) none (extf .f32 x bitsLt_fp8e4m3_f32) (extf .f32 w bitsLt_fp8e5m2_f32)
    (constant (F := Ideal) S4096x2048 .f32 0x00000000#32) r l
  rw [show constant (F := Ideal) S4096x2048 .f32 0x00000000#32 (ix2 r l) = (0 : EReal) from Ideal.ofBits_zero_f32, zero_add] at h
  exact congrArg (fun v => FloatOps.maximumf (F := Ideal) (φ := .f32) (FloatOps.mulf (F := Ideal) (φ := .f32) v (Scalar.mulf (sx p0) (sw p0))) (Scalar.ofBits .f32 0x00000000#32)) h

end Cert.ReferenceIdeal.Plain
end
-- ==== Proof.Equal.lean ====
/-
The eight devices' results are the blocks of rows of the reference's result: the reference's sum over the 4096 columns
of the whole first operand is the sum over the devices of the sums over the 512 columns each of them holds.
-/
module

public import proofs.«01_k».proof.Proof.KernelIdeal.Final
public import proofs.«01_k».proof.Proof.KernelIdeal.Value
public import proofs.«01_k».proof.Proof.RefValue
public import Idealize.ShloMosaic.Lib.Layout

@[expose] public section

noncomputable section

namespace Cert.Equal

open Idealize.ShloMosaic
open Idealize.ShloMosaic.ValueIdx (ix2)
open Cert.KernelIdeal.RS (Ins out)
open Cert.KernelIdeal.RS.Sums (D)
open Cert.ReferenceIdeal.Plain (refOut)
open scoped BigOperators

/-- A sum over 4096 places as eight sums over 512 places. -/
theorem sum_split (f : Fin 4096 → EReal) : (∑ k, f k) = ∑ e : Fin 8, ∑ q : Fin 512, f ⟨e.val * 512 + q.val, by omega⟩ := by
  rw [← (finProdFinEquiv (m := 8) (n := 512)).sum_comp f, Fintype.sum_prod_type]
  refine Finset.sum_congr rfl fun e _ => Finset.sum_congr rfl fun q _ => congrArg f (Fin.ext ?_)
  show q.val + 512 * e.val = e.val * 512 + q.val
  omega

variable (ι : Ins Ideal)
variable (X : (⟨2, ![4096, 4096]⟩ : Shape).Idx → Elt Ideal .fp8e4m3) (W : (⟨2, ![4096, 2048]⟩ : Shape).Idx → Elt Ideal .fp8e5m2)
variable (sx sw : (⟨1, ![1]⟩ : Shape).Idx → Elt Ideal .f32)

/-- An entry of a device's columns of the whole first operand. -/
theorem x_at (hx : ∀ c, ι.x c = Layout.block ⟨2, ![4096, 512]⟩ ⟨2, ![4096, 4096]⟩ 1 8 c X) (c : Fin 8) (r : Fin 4096) (q : Fin 512) :
    ι.x c (ix2 r q) = X (ix2 r ⟨c.val * 512 + q.val, by omega⟩) := by
  rw [hx c, Layout.block_apply]
  congr 1
  funext a
  fin_cases a <;> rfl

/-- An entry of a device's rows of the whole second operand. -/
theorem w_at (hw : ∀ c, ι.w c = Layout.block ⟨2, ![512, 2048]⟩ ⟨2, ![4096, 2048]⟩ 0 8 c W) (c : Fin 8) (q : Fin 512) (l : Fin 2048) :
    ι.w c (ix2 q l) = W (ix2 ⟨c.val * 512 + q.val, by omega⟩ l) := by
  rw [hw c, Layout.block_apply]
  congr 1
  funext a
  fin_cases a <;> rfl

/-- Where an entry of a device's block of rows lies in the whole result. -/
theorem out_place (h : Layout.Tiles ⟨2, ![512, 2048]⟩ ⟨2, ![4096, 2048]⟩ 0 8) (c : Fin 8) (i : Fin 512) (l : Fin 2048) :
    h.idx c (ix2 i l) = ix2 ⟨512 * c.val + i.val, by omega⟩ l := by
  funext a
  fin_cases a
  · exact Fin.ext (by show c.val * 512 + i.val = 512 * c.val + i.val; omega)
  · rfl

/-- Each device's result is its block of rows of the reference's result. -/
theorem out_block (hx : ∀ c, ι.x c = Layout.block ⟨2, ![4096, 512]⟩ ⟨2, ![4096, 4096]⟩ 1 8 c X)
    (hw : ∀ c, ι.w c = Layout.block ⟨2, ![512, 2048]⟩ ⟨2, ![4096, 2048]⟩ 0 8 c W)
    (hsx : ∀ c, ι.sx c = sx) (hsw : ∀ c, ι.sw c = sw) (c : Fin 8) :
    out ι c = Layout.block ⟨2, ![512, 2048]⟩ ⟨2, ![4096, 2048]⟩ 0 8 c (refOut (F := Ideal) X W sx sw) := by
  funext j
  obtain ⟨i, l, rfl⟩ : ∃ (i : Fin 512) (l : Fin 2048), j = ix2 i l := ⟨j 0, j 1, by funext a; fin_cases a <;> rfl⟩
  rw [Layout.block_apply, out_place]
  refine (Cert.KernelIdeal.RS.Sums.out_eq ι c (ix2 i l)).trans ((Cert.ReferenceIdeal.Plain.refOut_at X W sx sw _ l).trans ?_).symm
  have hs : Cert.KernelIdeal.RS.scl ι c = Scalar.mulf (sx Cert.ReferenceIdeal.Plain.p0) (sw Cert.ReferenceIdeal.Plain.p0) := by
    unfold Cert.KernelIdeal.RS.scl
    rw [hsx c, hsw c]
    rfl
  have hD : (∑ k : Fin 4096, (X (ix2 ⟨512 * c.val + i.val, by omega⟩ k) : EReal) * (W (ix2 k l) : EReal)) = ∑ e, D ι e c i l := by
    rw [sum_split]
    refine Finset.sum_congr rfl fun e _ => Finset.sum_congr rfl fun q _ => ?_
    rw [x_at ι X hx, w_at ι W hw]
  rw [hs, hD]
  rfl

end Cert.Equal
end
-- ==== Proof.lean ====
/-
The whole claim: the frames of the three programs, and the equality of the eight devices' results with the blocks of the
reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Final
public import proofs.«01_k».proof.Proof.KernelIdeal.Final
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The eight devices' results are the blocks of the reference's one result. -/
theorem equal : algebraic_KernelIdeal_ReferenceIdeal (hKernelIdeal := Cert.KernelIdeal.Gen.facts) (hReferenceIdeal := Cert.ReferenceIdeal.Gen.facts) :=
  fun m g m' g' _ h =>
    ⟨Cert.ReferenceIdeal.Plain.refOut (F := Ideal) _ _ _ _,
      (θ_run _ _ _).mono (fun _ hr c => ⟨(hr.1 c).1.trans (Cert.Equal.out_block (Cert.KernelIdeal.RS.ins m) _ _ _ _
          (fun e => (Cert.KernelIdeal.RS.ins_x m e).trans (h e).1) (fun e => (Cert.KernelIdeal.RS.ins_w m e).trans (h e).2.1)
          (fun e => (Cert.KernelIdeal.RS.ins_sx m e).trans (h e).2.2.1) (fun e => (Cert.KernelIdeal.RS.ins_sw m e).trans (h e).2.2.2) c), (hr.1 c).2⟩)
        (Cert.KernelIdeal.RS.run_value m g),
      (θ_run _ _ _).mono (fun _ hr => ⟨(hr 0).1.trans (Cert.ReferenceIdeal.Plain.final m' 0), (hr 0).2⟩)
        (Cert.ReferenceIdeal.Value.run_blocks m' g')⟩

theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.RS.run_value m g),
  fun m g _ => (θ_run _ _ _).mono (fun _ h => ⟨fun c => (h.1 c).2, h.2⟩) (Cert.KernelIdeal.RS.run_value m g),
  fun m g _ => Cert.ReferenceIdeal.Gen.frame m g, trivial, equal⟩

end Cert.Proof

end
